-- ==== Defs.lean ====
def Pre_Kernel [hPre_groups_named : Cert.Pre_groups_named.Facts] (m : (ℓ : Loc Cert.Kernel.nD Cert.Kernel.τ Cert.Kernel.sig) → Buf (Elt Bits) ℓ) : Prop :=
  ∀ c : Dev Cert.Kernel.nD,
    (Cert.Pre_groups_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_groups_named : Cert.Pre_groups_named.Facts] (m : (ℓ : Loc Cert.KernelIdeal.nD Cert.KernelIdeal.τ Cert.KernelIdeal.sig) → Buf (Elt Ideal) ℓ) : Prop :=
  ∀ c : Dev Cert.KernelIdeal.nD,
    (Cert.Pre_groups_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_groups_named : Cert.Pre_groups_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_groups_named : Cert.Pre_groups_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_groups_named : Cert.Pre_groups_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_groups_named : Cert.Pre_groups_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S288x2x128 Cert.KernelIdeal.S288x1x128
  ∧ IdealRules.bf16_pair.BufferStatement Cert.KernelIdeal.S2x2304x2x128 Cert.KernelIdeal.S2x2304x1x128
  ∧ IdealRules.bf16_pair.HalfStatement Cert.KernelIdeal.S36x1024
  ∧ IdealRules.bf16_pair.Statement Cert.KernelIdeal.S36x2x128 Cert.KernelIdeal.S36x1x128
  ∧ IdealRules.bf16_pair.Statement Cert.KernelIdeal.S8x2x128 Cert.KernelIdeal.S8x1x128
  ∧ IdealRules.bf16_pair.Statement Cert.KernelIdeal.S128x2x128 Cert.KernelIdeal.S128x1x128
  ∧ IdealRules.bf16_pair.Statement Cert.KernelIdeal.S256x128 Cert.KernelIdeal.S128x128
  ∧ IdealRules.bf16_pair.PackStatement Cert.KernelIdeal.S128x128

def algebraic_KernelIdeal_ReferenceIdeal [hKernelIdeal : Cert.KernelIdeal.Facts] [hReferenceIdeal : Cert.ReferenceIdeal.Facts] [hPre_groups_named : Cert.Pre_groups_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups_named : Cert.Pre_groups_named.Facts),
    quiescent_Kernel (hKernel := hKernel) (hPre_groups_named := hPre_groups_named)
    ∧ quiescent_KernelIdeal (hKernelIdeal := hKernelIdeal) (hPre_groups_named := hPre_groups_named)
    ∧ quiescent_ReferenceIdeal (hReferenceIdeal := hReferenceIdeal) (hPre_groups_named := hPre_groups_named)
    ∧ preserves_Kernel_KernelIdeal
    ∧ algebraic_KernelIdeal_ReferenceIdeal (hKernelIdeal := hKernelIdeal) (hReferenceIdeal := hReferenceIdeal) (hPre_groups_named := hPre_groups_named)
-- ==== Pre_groups_named.lean ====
abbrev S256x1x4608 : Shape := ⟨3, ![256, 1, 4608]⟩
abbrev S2304x36864 : Shape := ⟨2, ![2304, 36864]⟩
abbrev S36x36864 : Shape := ⟨2, ![36, 36864]⟩
abbrev S18x36864 : Shape := ⟨2, ![18, 36864]⟩
abbrev S4608 : Shape := ⟨1, ![4608]⟩
abbrev S_ : Shape := ⟨0, ![]⟩

class Facts : Prop where
  bcast_S_S4608 : S_.BroadcastsInDim S4608 (![] : Fin 0 → Fin S4608.rank)

variable [Facts]

def fn {F : FTy → Type} [FloatOps F] (main_arg0 : FVec F S256x1x4608 .bf16) (main_arg1 : IVec S2304x36864 8) (main_arg2 : FVec F S36x36864 .bf16) (main_arg3 : IVec S18x36864 8) (main_arg4 : IVec S4608 32) : IVec S4608 1 :=
  let main_c : IVec S_ 32 := constantI S_ 32 0#32
  let main_v0 : IVec S4608 32 := broadcastInDim S4608 ![] bcast_S_S4608 main_c
  let main_v1 : IVec S4608 1 := cmpi .sge main_arg4 main_v0
  let main_c_0 : IVec S_ 32 := constantI S_ 32 36#32
  let main_v2 : IVec S4608 32 := broadcastInDim S4608 ![] bcast_S_S4608 main_c_0
  let main_v3 : IVec S4608 1 := cmpi .slt main_arg4 main_v2
  let main_v4 : IVec S4608 1 := andi main_v1 main_v3
  main_v4
-- ==== Kernel.lean ====
abbrev S256x1x4608 : Shape := ⟨3, ![256, 1, 4608]⟩
abbrev S2304x36864 : Shape := ⟨2, ![2304, 36864]⟩
abbrev S36x36864 : Shape := ⟨2, ![36, 36864]⟩
abbrev S18x36864 : Shape := ⟨2, ![18, 36864]⟩
abbrev S4608 : Shape := ⟨1, ![4608]⟩
abbrev S256x4608 : Shape := ⟨2, ![256, 4608]⟩
abbrev S256x36864 : Shape := ⟨2, ![256, 36864]⟩
abbrev S2304x1024 : Shape := ⟨2, ![2304, 1024]⟩
abbrev S36x1024 : Shape := ⟨2, ![36, 1024]⟩
abbrev S18x1024 : Shape := ⟨2, ![18, 1024]⟩
abbrev S256x1024 : Shape := ⟨2, ![256, 1024]⟩
abbrev S288x128 : Shape := ⟨2, ![288, 128]⟩
abbrev S2x2304x128 : Shape := ⟨3, ![2, 2304, 128]⟩
abbrev S36x128 : Shape := ⟨2, ![36, 128]⟩
abbrev S1 : Shape := ⟨1, ![1]⟩
abbrev S8x128 : Shape := ⟨2, ![8, 128]⟩
abbrev S1x2304x128 : Shape := ⟨3, ![1, 2304, 128]⟩
abbrev S2304x128 : Shape := ⟨2, ![2304, 128]⟩
abbrev S256x256 : Shape := ⟨2, ![256, 256]⟩
abbrev S128x256 : Shape := ⟨2, ![128, 256]⟩
abbrev S128x128 : Shape := ⟨2, ![128, 128]⟩
abbrev S256x128 : Shape := ⟨2, ![256, 128]⟩

abbrev nBuf : Space → Nat
  | .hbm => 7
  | .vmem => 11
  | .smem => 1
  | _ => 0

abbrev bufTy : (tb : Table) → Fin (tcTables nBuf tb) → BufTy
  | .hbm, ⟨0, _⟩ => ⟨S256x1x4608, .bf16⟩
  | .hbm, ⟨1, _⟩ => ⟨S2304x36864, .i8⟩
  | .hbm, ⟨2, _⟩ => ⟨S36x36864, .bf16⟩
  | .hbm, ⟨3, _⟩ => ⟨S18x36864, .i8⟩
  | .hbm, ⟨4, _⟩ => ⟨S4608, .i32⟩
  | .hbm, ⟨5, _⟩ => ⟨S256x4608, .bf16⟩
  | .hbm, ⟨6, _⟩ => ⟨S256x36864, .bf16⟩
  | .local _ .vmem, ⟨0, _⟩ => ⟨S256x4608, .bf16⟩
  | .local _ .vmem, ⟨1, _⟩ => ⟨S2304x1024, .i8⟩
  | .local _ .vmem, ⟨2, _⟩ => ⟨S2304x1024, .i8⟩
  | .local _ .vmem, ⟨3, _⟩ => ⟨S36x1024, .bf16⟩
  | .local _ .vmem, ⟨4, _⟩ => ⟨S36x1024, .bf16⟩
  | .local _ .vmem, ⟨5, _⟩ => ⟨S18x1024, .i8⟩
  | .local _ .vmem, ⟨6, _⟩ => ⟨S18x1024, .i8⟩
  | .local _ .vmem, ⟨7, _⟩ => ⟨S256x1024, .bf16⟩
  | .local _ .vmem, ⟨8, _⟩ => ⟨S256x1024, .bf16⟩
  | .local _ .vmem, ⟨9, _⟩ => ⟨S288x128, .i32⟩
  | .local _ .vmem, ⟨10, _⟩ => ⟨S2x2304x128, .i32⟩
  | .local _ .smem, ⟨0, _⟩ => ⟨S4608, .i32⟩
  | _, _ => ⟨S256x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![36], ![false]⟩

@[reducible] def k0_t1_loop : Scf.Loop 32 :=
  let c0_i32_13_r0 : BitVec 32 := 0#32
  let c256_i32_r0 : BitVec 32 := 256#32
  let v49_r0 : BitVec 32 := Scalar.addi c0_i32_13_r0 c256_i32_r0
  let c1_i32_r0 : BitVec 32 := 1#32
  ⟨c0_i32_13_r0, v49_r0, c1_i32_r0⟩
def k0_off1 (k0_t1 : Fin k0_t1_loop.trips) : Fin 1 → Nat :=
  let c0_i32_24_r0 : BitVec 32 := 0#32
  let c0_i32_13_r0 : BitVec 32 := 0#32
  let c1_i32_r0 : BitVec 32 := 1#32
  let arg9_r0 : BitVec 32 := Scf.iv c0_i32_13_r0 c1_i32_r0 k0_t1
  let v65_r0 : BitVec 32 := Scalar.addi c0_i32_24_r0 arg9_r0
  let v66_r0 : Index := Scalar.indexCast v65_r0
  ![v66_r0.toNat]
def k0_mult1 (v67_r0 : BitVec 32) : BitVec 32 :=
  let c8_i32_r0 : BitVec 32 := 8#32
  let v68_r0 : BitVec 32 := Scalar.muli v67_r0 c8_i32_r0
  v68_r0

def k0_off2 (v67_r0 : BitVec 32) : Fin 2 → Nat :=
  let c8_i32_r0 : BitVec 32 := 8#32
  let v68_r0 : BitVec 32 := Scalar.muli v67_r0 c8_i32_r0
  let v69_r0 : BitVec 32 := v68_r0
  let v70_r0 : Index := Scalar.indexCast v69_r0
  let c0_25_r0 : Index := 0#32
  ![v70_r0.toNat, 0]

def k0_chk1 (v67_r0 : BitVec 32) : Prop :=
  (8 ∣ (k0_mult1 v67_r0).toNat) ∧
  (∀ a, (k0_off2 v67_r0) a + S8x128.size a ≤ S288x128.size a)
theorem k0_mult1_dvd : ∀ (v67_r0 : BitVec 32) (k0_hw1 : k0_chk1 v67_r0), 8 ∣ (k0_mult1 v67_r0).toNat := fun v67_r0 k0_hw1 => k0_hw1.1
theorem k0_off2_inb : ∀ (v67_r0 : BitVec 32) (k0_hw1 : k0_chk1 v67_r0), ∀ a, (k0_off2 v67_r0) a + S8x128.size a ≤ S288x128.size a := fun v67_r0 k0_hw1 => k0_hw1.2

def k0_off3 (k0_t1 : Fin k0_t1_loop.trips) : Fin 2 → Nat :=
  let c0_i32_13_r0 : BitVec 32 := 0#32
  let c1_i32_r0 : BitVec 32 := 1#32
  let arg9_r0 : BitVec 32 := Scf.iv c0_i32_13_r0 c1_i32_r0 k0_t1
  let c9_i32_r0 : BitVec 32 := 9#32
  let v72_r0 : BitVec 32 := Scalar.muli arg9_r0 c9_i32_r0
  let v75_r0 : Index := Scalar.indexCast v72_r0
  let c0_28_r0 : Index := 0#32
  ![v75_r0.toNat, 0]
@[reducible] def k0_t2_loop : Scf.Loop 32 :=
  let c0_i32_16_r0 : BitVec 32 := 0#32
  let c18_i32_r0 : BitVec 32 := 18#32
  let v51_r0 : BitVec 32 := Scalar.addi c0_i32_16_r0 c18_i32_r0
  let c1_i32_17_r0 : BitVec 32 := 1#32
  ⟨c0_i32_16_r0, v51_r0, c1_i32_17_r0⟩
def k0_cond1 (k0_t2 : Fin k0_t2_loop.trips) : BitVec 1 :=
  let c0_i32_16_r0 : BitVec 32 := 0#32
  let c1_i32_17_r0 : BitVec 32 := 1#32
  let arg9_r0 : BitVec 32 := Scf.iv c0_i32_16_r0 c1_i32_17_r0 k0_t2
  let c1_i32_24_r0 : BitVec 32 := 1#32
  let v65_r0 : BitVec 32 := Scalar.addi arg9_r0 c1_i32_24_r0
  let c18_i32_25_r0 : BitVec 32 := 18#32
  let v66_r0 : BitVec 1 := Scalar.cmpi .slt v65_r0 c18_i32_25_r0
  let v67_r0 : BitVec 32 := Scalar.extui v66_r0
  let c0_i32_26_r0 : BitVec 32 := 0#32
  let v68_r0 : BitVec 1 := Scalar.cmpi .ne v67_r0 c0_i32_26_r0
  v68_r0

@[reducible] def k0_t3_loop : Scf.Loop 32 :=
  let c0_i32_166_r0 : BitVec 32 := 0#32
  let c256_i32_167_r0 : BitVec 32 := 256#32
  let v369_r0 : BitVec 32 := Scalar.addi c0_i32_166_r0 c256_i32_167_r0
  let c1_i32_168_r0 : BitVec 32 := 1#32
  ⟨c0_i32_166_r0, v369_r0, c1_i32_168_r0⟩
def k0_off4 (k0_t2 : Fin k0_t2_loop.trips) (k0_t3 : Fin k0_t3_loop.trips) : Fin 1 → Nat :=
  let c0_i32_16_r0 : BitVec 32 := 0#32
  let c1_i32_17_r0 : BitVec 32 := 1#32
  let arg9_r0 : BitVec 32 := Scf.iv c0_i32_16_r0 c1_i32_17_r0 k0_t2
  let c1_i32_158_r0 : BitVec 32 := 1#32
  let v358_r0 : BitVec 32 := Scalar.addi arg9_r0 c1_i32_158_r0
  let c256_i32_170_r0 : BitVec 32 := 256#32
  let v371_r0 : BitVec 32 := Scalar.muli v358_r0 c256_i32_170_r0
  let c0_i32_166_r0 : BitVec 32 := 0#32
  let c1_i32_168_r0 : BitVec 32 := 1#32
  let arg11_r0 : BitVec 32 := Scf.iv c0_i32_166_r0 c1_i32_168_r0 k0_t3
  let v372_r0 : BitVec 32 := Scalar.addi v371_r0 arg11_r0
  let v373_r0 : Index := Scalar.indexCast v372_r0
  ![v373_r0.toNat]
def k0_mult2 (v374_r0 : BitVec 32) : BitVec 32 :=
  let c8_i32_r0 : BitVec 32 := 8#32
  let v375_r0 : BitVec 32 := Scalar.muli v374_r0 c8_i32_r0
  v375_r0

def k0_off5 (v374_r0 : BitVec 32) : Fin 2 → Nat :=
  let c8_i32_r0 : BitVec 32 := 8#32
  let v375_r0 : BitVec 32 := Scalar.muli v374_r0 c8_i32_r0
  let v376_r0 : BitVec 32 := v375_r0
  let v377_r0 : Index := Scalar.indexCast v376_r0
  let c0_171_r0 : Index := 0#32
  ![v377_r0.toNat, 0]

def k0_chk2 (k0_t2 : Fin k0_t2_loop.trips) (v374_r0 : BitVec 32) : Prop :=
  (∀ (k0_h1 : k0_cond1 k0_t2 = 1#1), 8 ∣ (k0_mult2 v374_r0).toNat) ∧
  (∀ (k0_h1 : k0_cond1 k0_t2 = 1#1), ∀ a, (k0_off5 v374_r0) a + S8x128.size a ≤ S288x128.size a)
theorem k0_mult2_dvd : ∀ (k0_t2 : Fin k0_t2_loop.trips) (v374_r0 : BitVec 32) (k0_hw2 : k0_chk2 k0_t2 v374_r0), ∀ (k0_h1 : k0_cond1 k0_t2 = 1#1), 8 ∣ (k0_mult2 v374_r0).toNat := fun k0_t2 v374_r0 k0_hw2 k0_h1 => k0_hw2.1 k0_h1
theorem k0_off5_inb : ∀ (k0_t2 : Fin k0_t2_loop.trips) (v374_r0 : BitVec 32) (k0_hw2 : k0_chk2 k0_t2 v374_r0), ∀ (k0_h1 : k0_cond1 k0_t2 = 1#1), ∀ a, (k0_off5 v374_r0) a + S8x128.size a ≤ S288x128.size a := fun k0_t2 v374_r0 k0_hw2 k0_h1 => k0_hw2.2 k0_h1

def k0_off6 (k0_t2 : Fin k0_t2_loop.trips) : Fin 3 → Nat :=
  let c0_i32_16_r0 : BitVec 32 := 0#32
  let c1_i32_17_r0 : BitVec 32 := 1#32
  let arg9_r0 : BitVec 32 := Scf.iv c0_i32_16_r0 c1_i32_17_r0 k0_t2
  let c1_i32_158_r0 : BitVec 32 := 1#32
  let v358_r0 : BitVec 32 := Scalar.addi arg9_r0 c1_i32_158_r0
  let c2_i32_159_r0 : BitVec 32 := 2#32
  let c0_i32_160_r0 : BitVec 32 := 0#32
  let v359_r0 : BitVec 1 := Scalar.cmpi .eq c2_i32_159_r0 c0_i32_160_r0
  let c1_i32_161_r0 : BitVec 32 := 1#32
  let v360_r0 : BitVec 32 := Scalar.select v359_r0 c1_i32_161_r0 c2_i32_159_r0
  let v361_r0 : BitVec 32 := Scalar.remsi v358_r0 v360_r0
  let c0_i32_163_r0 : BitVec 32 := 0#32
  let v363_r0 : BitVec 1 := Scalar.cmpi .slt v361_r0 c0_i32_163_r0
  let c0_i32_164_r0 : BitVec 32 := 0#32
  let v364_r0 : BitVec 1 := Scalar.cmpi .slt v360_r0 c0_i32_164_r0
  let v365_r0 : BitVec 1 := Scalar.xori v363_r0 v364_r0
  let c0_i32_162_r0 : BitVec 32 := 0#32
  let v362_r0 : BitVec 1 := Scalar.cmpi .ne v361_r0 c0_i32_162_r0
  let v366_r0 : BitVec 1 := Scalar.andi v365_r0 v362_r0
  let v367_r0 : BitVec 32 := Scalar.addi v361_r0 v360_r0
  let v368_r0 : BitVec 32 := Scalar.select v366_r0 v367_r0 v361_r0
  let c0_i32_172_r0 : BitVec 32 := 0#32
  let c0_i32_173_r0 : BitVec 32 := 0#32
  ![v368_r0.toNat, 0, 0]
def k0_off7 (k0_t3 : Fin k0_t3_loop.trips) : Fin 2 → Nat :=
  let c0_i32_166_r0 : BitVec 32 := 0#32
  let c1_i32_168_r0 : BitVec 32 := 1#32
  let arg11_r0 : BitVec 32 := Scf.iv c0_i32_166_r0 c1_i32_168_r0 k0_t3
  let c9_i32_r0 : BitVec 32 := 9#32
  let v379_r0 : BitVec 32 := Scalar.muli arg11_r0 c9_i32_r0
  let v382_r0 : Index := Scalar.indexCast v379_r0
  let c0_174_r0 : Index := 0#32
  ![v382_r0.toNat, 0]
def k0_mult3 (k0_t2 : Fin k0_t2_loop.trips) : BitVec 32 :=
  let c0_i32_16_r0 : BitVec 32 := 0#32
  let c1_i32_17_r0 : BitVec 32 := 1#32
  let arg9_r0 : BitVec 32 := Scf.iv c0_i32_16_r0 c1_i32_17_r0 k0_t2
  let c256_i32_27_r0 : BitVec 32 := 256#32
  let v69_r0 : BitVec 32 := Scalar.muli arg9_r0 c256_i32_27_r0
  v69_r0
def k0_off8 (k0_t2 : Fin k0_t2_loop.trips) : Fin 2 → Nat :=
  let c0_28_r0 : Index := 0#32
  let c0_i32_16_r0 : BitVec 32 := 0#32
  let c1_i32_17_r0 : BitVec 32 := 1#32
  let arg9_r0 : BitVec 32 := Scf.iv c0_i32_16_r0 c1_i32_17_r0 k0_t2
  let c256_i32_27_r0 : BitVec 32 := 256#32
  let v69_r0 : BitVec 32 := Scalar.muli arg9_r0 c256_i32_27_r0
  let v70_r0 : BitVec 32 := v69_r0
  let v71_r0 : Index := Scalar.indexCast v70_r0
  ![0, v71_r0.toNat]
def k0_mult4 (k0_t2 : Fin k0_t2_loop.trips) : BitVec 32 :=
  let c0_i32_16_r0 : BitVec 32 := 0#32
  let c1_i32_17_r0 : BitVec 32 := 1#32
  let arg9_r0 : BitVec 32 := Scf.iv c0_i32_16_r0 c1_i32_17_r0 k0_t2
  let c128_i32_r0 : BitVec 32 := 128#32
  let v84_r0 : BitVec 32 := Scalar.muli arg9_r0 c128_i32_r0
  v84_r0
def k0_off9 (k0_t2 : Fin k0_t2_loop.trips) : Fin 2 → Nat :=
  let c0_i32_16_r0 : BitVec 32 := 0#32
  let c1_i32_17_r0 : BitVec 32 := 1#32
  let arg9_r0 : BitVec 32 := Scf.iv c0_i32_16_r0 c1_i32_17_r0 k0_t2
  let c128_i32_r0 : BitVec 32 := 128#32
  let v84_r0 : BitVec 32 := Scalar.muli arg9_r0 c128_i32_r0
  let v85_r0 : BitVec 32 := v84_r0
  let v86_r0 : Index := Scalar.indexCast v85_r0
  let c0_34_r0 : Index := 0#32
  ![v86_r0.toNat, 0]
def k0_off10 (k0_t2 : Fin k0_t2_loop.trips) : Fin 3 → Nat :=
  let c0_i32_16_r0 : BitVec 32 := 0#32
  let c1_i32_17_r0 : BitVec 32 := 1#32
  let arg9_r0 : BitVec 32 := Scf.iv c0_i32_16_r0 c1_i32_17_r0 k0_t2
  let c2_i32_r0 : BitVec 32 := 2#32
  let c0_i32_29_r0 : BitVec 32 := 0#32
  let v74_r0 : BitVec 1 := Scalar.cmpi .eq c2_i32_r0 c0_i32_29_r0
  let c1_i32_30_r0 : BitVec 32 := 1#32
  let v75_r0 : BitVec 32 := Scalar.select v74_r0 c1_i32_30_r0 c2_i32_r0
  let v76_r0 : BitVec 32 := Scalar.remsi arg9_r0 v75_r0
  let c0_i32_32_r0 : BitVec 32 := 0#32
  let v78_r0 : BitVec 1 := Scalar.cmpi .slt v76_r0 c0_i32_32_r0
  let c0_i32_33_r0 : BitVec 32 := 0#32
  let v79_r0 : BitVec 1 := Scalar.cmpi .slt v75_r0 c0_i32_33_r0
  let v80_r0 : BitVec 1 := Scalar.xori v78_r0 v79_r0
  let c0_i32_31_r0 : BitVec 32 := 0#32
  let v77_r0 : BitVec 1 := Scalar.cmpi .ne v76_r0 c0_i32_31_r0
  let v81_r0 : BitVec 1 := Scalar.andi v80_r0 v77_r0
  let v82_r0 : BitVec 32 := Scalar.addi v76_r0 v75_r0
  let v83_r0 : BitVec 32 := Scalar.select v81_r0 v82_r0 v76_r0
  let c0_i32_38_r0 : BitVec 32 := 0#32
  let c0_i32_39_r0 : BitVec 32 := 0#32
  ![v83_r0.toNat, 0, 0]
def k0_mult5 (k0_t2 : Fin k0_t2_loop.trips) : BitVec 32 :=
  let c0_i32_16_r0 : BitVec 32 := 0#32
  let c1_i32_17_r0 : BitVec 32 := 1#32
  let arg9_r0 : BitVec 32 := Scf.iv c0_i32_16_r0 c1_i32_17_r0 k0_t2
  let c128_i32_64_r0 : BitVec 32 := 128#32
  let v155_r0 : BitVec 32 := Scalar.muli arg9_r0 c128_i32_64_r0
  v155_r0
def k0_off11 (k0_t2 : Fin k0_t2_loop.trips) : Fin 2 → Nat :=
  let c0_i32_16_r0 : BitVec 32 := 0#32
  let c1_i32_17_r0 : BitVec 32 := 1#32
  let arg9_r0 : BitVec 32 := Scf.iv c0_i32_16_r0 c1_i32_17_r0 k0_t2
  let c128_i32_64_r0 : BitVec 32 := 128#32
  let v155_r0 : BitVec 32 := Scalar.muli arg9_r0 c128_i32_64_r0
  let v156_r0 : BitVec 32 := v155_r0
  let v157_r0 : Index := Scalar.indexCast v156_r0
  let c256_65_r0 : Index := 256#32
  ![v157_r0.toNat, 256]
def k0_mult6 (k0_t2 : Fin k0_t2_loop.trips) : BitVec 32 :=
  let c0_i32_16_r0 : BitVec 32 := 0#32
  let c1_i32_17_r0 : BitVec 32 := 1#32
  let arg9_r0 : BitVec 32 := Scf.iv c0_i32_16_r0 c1_i32_17_r0 k0_t2
  let c128_i32_97_r0 : BitVec 32 := 128#32
  let v226_r0 : BitVec 32 := Scalar.muli arg9_r0 c128_i32_97_r0
  v226_r0
def k0_off12 (k0_t2 : Fin k0_t2_loop.trips) : Fin 2 → Nat :=
  let c0_i32_16_r0 : BitVec 32 := 0#32
  let c1_i32_17_r0 : BitVec 32 := 1#32
  let arg9_r0 : BitVec 32 := Scf.iv c0_i32_16_r0 c1_i32_17_r0 k0_t2
  let c128_i32_97_r0 : BitVec 32 := 128#32
  let v226_r0 : BitVec 32 := Scalar.muli arg9_r0 c128_i32_97_r0
  let v227_r0 : BitVec 32 := v226_r0
  let v228_r0 : Index := Scalar.indexCast v227_r0
  let c512_98_r0 : Index := 512#32
  ![v228_r0.toNat, 512]
def k0_mult7 (k0_t2 : Fin k0_t2_loop.trips) : BitVec 32 :=
  let c0_i32_16_r0 : BitVec 32 := 0#32
  let c1_i32_17_r0 : BitVec 32 := 1#32
  let arg9_r0 : BitVec 32 := Scf.iv c0_i32_16_r0 c1_i32_17_r0 k0_t2
  let c128_i32_130_r0 : BitVec 32 := 128#32
  let v297_r0 : BitVec 32 := Scalar.muli arg9_r0 c128_i32_130_r0
  v297_r0
def k0_off13 (k0_t2 : Fin k0_t2_loop.trips) : Fin 2 → Nat :=
  let c0_i32_16_r0 : BitVec 32 := 0#32
  let c1_i32_17_r0 : BitVec 32 := 1#32
  let arg9_r0 : BitVec 32 := Scf.iv c0_i32_16_r0 c1_i32_17_r0 k0_t2
  let c128_i32_130_r0 : BitVec 32 := 128#32
  let v297_r0 : BitVec 32 := Scalar.muli arg9_r0 c128_i32_130_r0
  let v298_r0 : BitVec 32 := v297_r0
  let v299_r0 : Index := Scalar.indexCast v298_r0
  let c768_131_r0 : Index := 768#32
  ![v299_r0.toNat, 768]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S4608 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2304x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S36x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S18x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S256x1x4608 : Shape := ⟨3, ![256, 1, 4608]⟩
abbrev S2304x36864 : Shape := ⟨2, ![2304, 36864]⟩
abbrev S36x36864 : Shape := ⟨2, ![36, 36864]⟩
abbrev S18x36864 : Shape := ⟨2, ![18, 36864]⟩
abbrev S4608 : Shape := ⟨1, ![4608]⟩
abbrev S256x4608 : Shape := ⟨2, ![256, 4608]⟩
abbrev S256x36864 : Shape := ⟨2, ![256, 36864]⟩
abbrev S2304x1024 : Shape := ⟨2, ![2304, 1024]⟩
abbrev S36x1024 : Shape := ⟨2, ![36, 1024]⟩
abbrev S18x1024 : Shape := ⟨2, ![18, 1024]⟩
abbrev S256x1024 : Shape := ⟨2, ![256, 1024]⟩
abbrev S288x128 : Shape := ⟨2, ![288, 128]⟩
abbrev S288x2x128 : Shape := ⟨3, ![288, 2, 128]⟩
abbrev S288x1x128 : Shape := ⟨3, ![288, 1, 128]⟩
abbrev S2x2304x128 : Shape := ⟨3, ![2, 2304, 128]⟩
abbrev S2x2304x2x128 : Shape := ⟨4, ![2, 2304, 2, 128]⟩
abbrev S2x2304x1x128 : Shape := ⟨4, ![2, 2304, 1, 128]⟩
abbrev S36x128 : Shape := ⟨2, ![36, 128]⟩
abbrev S36x2x128 : Shape := ⟨3, ![36, 2, 128]⟩
abbrev S36x1x128 : Shape := ⟨3, ![36, 1, 128]⟩
abbrev S1 : Shape := ⟨1, ![1]⟩
abbrev S8x128 : Shape := ⟨2, ![8, 128]⟩
abbrev S8x2x128 : Shape := ⟨3, ![8, 2, 128]⟩
abbrev S8x1x128 : Shape := ⟨3, ![8, 1, 128]⟩
abbrev S1x2304x2x128 : Shape := ⟨4, ![1, 2304, 2, 128]⟩
abbrev S2304x2x128 : Shape := ⟨3, ![2304, 2, 128]⟩
abbrev S256x256 : Shape := ⟨2, ![256, 256]⟩
abbrev S128x256 : Shape := ⟨2, ![128, 256]⟩
abbrev S128x128 : Shape := ⟨2, ![128, 128]⟩
abbrev S128x2x128 : Shape := ⟨3, ![128, 2, 128]⟩
abbrev S128x1x128 : Shape := ⟨3, ![128, 1, 128]⟩
abbrev S256x128 : Shape := ⟨2, ![256, 128]⟩

abbrev nBuf : Space → Nat
  | .hbm => 7
  | .vmem => 11
  | .smem => 1
  | _ => 0

abbrev bufTy : (tb : Table) → Fin (tcTables nBuf tb) → BufTy
  | .hbm, ⟨0, _⟩ => ⟨S256x1x4608, .bf16⟩
  | .hbm, ⟨1, _⟩ => ⟨S2304x36864, .i8⟩
  | .hbm, ⟨2, _⟩ => ⟨S36x36864, .bf16⟩
  | .hbm, ⟨3, _⟩ => ⟨S18x36864, .i8⟩
  | .hbm, ⟨4, _⟩ => ⟨S4608, .i32⟩
  | .hbm, ⟨5, _⟩ => ⟨S256x4608, .bf16⟩
  | .hbm, ⟨6, _⟩ => ⟨S256x36864, .bf16⟩
  | .local _ .vmem, ⟨0, _⟩ => ⟨S256x4608, .bf16⟩
  | .local _ .vmem, ⟨1, _⟩ => ⟨S2304x1024, .i8⟩
  | .local _ .vmem, ⟨2, _⟩ => ⟨S2304x1024, .i8⟩
  | .local _ .vmem, ⟨3, _⟩ => ⟨S36x1024, .bf16⟩
  | .local _ .vmem, ⟨4, _⟩ => ⟨S36x1024, .bf16⟩
  | .local _ .vmem, ⟨5, _⟩ => ⟨S18x1024, .i8⟩
  | .local _ .vmem, ⟨6, _⟩ => ⟨S18x1024, .i8⟩
  | .local _ .vmem, ⟨7, _⟩ => ⟨S256x1024, .bf16⟩
  | .local _ .vmem, ⟨8, _⟩ => ⟨S256x1024, .bf16⟩
  | .local _ .vmem, ⟨9, _⟩ => ⟨S288x2x128, .bf16⟩
  | .local _ .vmem, ⟨10, _⟩ => ⟨S2x2304x2x128, .bf16⟩
  | .local _ .smem, ⟨0, _⟩ => ⟨S4608, .i32⟩
  | _, _ => ⟨S256x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32_13_r0 : BitVec 32 := 0#32
  let c256_i32_r0 : BitVec 32 := 256#32
  let v49_r0 : BitVec 32 := Scalar.addi c0_i32_13_r0 c256_i32_r0
  let c1_i32_r0 : BitVec 32 := 1#32
  ⟨c0_i32_13_r0, v49_r0, c1_i32_r0⟩
def k0_off1 (k0_t1 : Fin k0_t1_loop.trips) : Fin 1 → Nat :=
  let c0_i32_24_r0 : BitVec 32 := 0#32
  let c0_i32_13_r0 : BitVec 32 := 0#32
  let c1_i32_r0 : BitVec 32 := 1#32
  let arg9_r0 : BitVec 32 := Scf.iv c0_i32_13_r0 c1_i32_r0 k0_t1
  let v65_r0 : BitVec 32 := Scalar.addi c0_i32_24_r0 arg9_r0
  let v66_r0 : Index := Scalar.indexCast v65_r0
  ![v66_r0.toNat]
def k0_mult1 (v67_r0 : BitVec 32) : BitVec 32 :=
  let c8_i32_r0 : BitVec 32 := 8#32
  let v68_r0 : BitVec 32 := Scalar.muli v67_r0 c8_i32_r0
  v68_r0

def k0_off2 (v67_r0 : BitVec 32) : Fin 3 → Nat :=
  let c8_i32_r0 : BitVec 32 := 8#32
  let v68_r0 : BitVec 32 := Scalar.muli v67_r0 c8_i32_r0
  let v69_r0 : BitVec 32 := v68_r0
  let v70_r0 : Index := Scalar.indexCast v69_r0
  let c0_25_r0 : Index := 0#32
  ![v70_r0.toNat, 0, 0]

def k0_chk1 (v67_r0 : BitVec 32) : Prop :=
  (8 ∣ (k0_mult1 v67_r0).toNat) ∧
  (∀ a, (k0_off2 v67_r0) a + S8x2x128.size a ≤ S288x2x128.size a)
theorem k0_mult1_dvd : ∀ (v67_r0 : BitVec 32) (k0_hw1 : k0_chk1 v67_r0), 8 ∣ (k0_mult1 v67_r0).toNat := fun v67_r0 k0_hw1 => k0_hw1.1
theorem k0_off2_inb : ∀ (v67_r0 : BitVec 32) (k0_hw1 : k0_chk1 v67_r0), ∀ a, (k0_off2 v67_r0) a + S8x2x128.size a ≤ S288x2x128.size a := fun v67_r0 k0_hw1 => k0_hw1.2

def k0_off3 (k0_t1 : Fin k0_t1_loop.trips) : Fin 3 → Nat :=
  let c0_i32_13_r0 : BitVec 32 := 0#32
  let c1_i32_r0 : BitVec 32 := 1#32
  let arg9_r0 : BitVec 32 := Scf.iv c0_i32_13_r0 c1_i32_r0 k0_t1
  let c9_i32_r0 : BitVec 32 := 9#32
  let v72_r0 : BitVec 32 := Scalar.muli arg9_r0 c9_i32_r0
  let v75_r0 : Index := Scalar.indexCast v72_r0
  let c0_28_r0 : Index := 0#32
  ![v75_r0.toNat, 0, 0]
@[reducible] def k0_t2_loop : Scf.Loop 32 :=
  let c0_i32_16_r0 : BitVec 32 := 0#32
  let c18_i32_r0 : BitVec 32 := 18#32
  let v51_r0 : BitVec 32 := Scalar.addi c0_i32_16_r0 c18_i32_r0
  let c1_i32_17_r0 : BitVec 32 := 1#32
  ⟨c0_i32_16_r0, v51_r0, c1_i32_17_r0⟩
def k0_cond1 (k0_t2 : Fin k0_t2_loop.trips) : BitVec 1 :=
  let c0_i32_16_r0 : BitVec 32 := 0#32
  let c1_i32_17_r0 : BitVec 32 := 1#32
  let arg9_r0 : BitVec 32 := Scf.iv c0_i32_16_r0 c1_i32_17_r0 k0_t2
  let c1_i32_24_r0 : BitVec 32 := 1#32
  let v65_r0 : BitVec 32 := Scalar.addi arg9_r0 c1_i32_24_r0
  let c18_i32_25_r0 : BitVec 32 := 18#32
  let v66_r0 : BitVec 1 := Scalar.cmpi .slt v65_r0 c18_i32_25_r0
  let v67_r0 : BitVec 32 := Scalar.extui v66_r0
  let c0_i32_26_r0 : BitVec 32 := 0#32
  let v68_r0 : BitVec 1 := Scalar.cmpi .ne v67_r0 c0_i32_26_r0
  v68_r0

@[reducible] def k0_t3_loop : Scf.Loop 32 :=
  let c0_i32_166_r0 : BitVec 32 := 0#32
  let c256_i32_167_r0 : BitVec 32 := 256#32
  let v369_r0 : BitVec 32 := Scalar.addi c0_i32_166_r0 c256_i32_167_r0
  let c1_i32_168_r0 : BitVec 32 := 1#32
  ⟨c0_i32_166_r0, v369_r0, c1_i32_168_r0⟩
def k0_off4 (k0_t2 : Fin k0_t2_loop.trips) (k0_t3 : Fin k0_t3_loop.trips) : Fin 1 → Nat :=
  let c0_i32_16_r0 : BitVec 32 := 0#32
  let c1_i32_17_r0 : BitVec 32 := 1#32
  let arg9_r0 : BitVec 32 := Scf.iv c0_i32_16_r0 c1_i32_17_r0 k0_t2
  let c1_i32_158_r0 : BitVec 32 := 1#32
  let v358_r0 : BitVec 32 := Scalar.addi arg9_r0 c1_i32_158_r0
  let c256_i32_170_r0 : BitVec 32 := 256#32
  let v371_r0 : BitVec 32 := Scalar.muli v358_r0 c256_i32_170_r0
  let c0_i32_166_r0 : BitVec 32 := 0#32
  let c1_i32_168_r0 : BitVec 32 := 1#32
  let arg11_r0 : BitVec 32 := Scf.iv c0_i32_166_r0 c1_i32_168_r0 k0_t3
  let v372_r0 : BitVec 32 := Scalar.addi v371_r0 arg11_r0
  let v373_r0 : Index := Scalar.indexCast v372_r0
  ![v373_r0.toNat]
def k0_mult2 (v374_r0 : BitVec 32) : BitVec 32 :=
  let c8_i32_r0 : BitVec 32 := 8#32
  let v375_r0 : BitVec 32 := Scalar.muli v374_r0 c8_i32_r0
  v375_r0

def k0_off5 (v374_r0 : BitVec 32) : Fin 3 → Nat :=
  let c8_i32_r0 : BitVec 32 := 8#32
  let v375_r0 : BitVec 32 := Scalar.muli v374_r0 c8_i32_r0
  let v376_r0 : BitVec 32 := v375_r0
  let v377_r0 : Index := Scalar.indexCast v376_r0
  let c0_171_r0 : Index := 0#32
  ![v377_r0.toNat, 0, 0]

def k0_chk2 (k0_t2 : Fin k0_t2_loop.trips) (v374_r0 : BitVec 32) : Prop :=
  (∀ (k0_h1 : k0_cond1 k0_t2 = 1#1), 8 ∣ (k0_mult2 v374_r0).toNat) ∧
  (∀ (k0_h1 : k0_cond1 k0_t2 = 1#1), ∀ a, (k0_off5 v374_r0) a + S8x2x128.size a ≤ S288x2x128.size a)
theorem k0_mult2_dvd : ∀ (k0_t2 : Fin k0_t2_loop.trips) (v374_r0 : BitVec 32) (k0_hw2 : k0_chk2 k0_t2 v374_r0), ∀ (k0_h1 : k0_cond1 k0_t2 = 1#1), 8 ∣ (k0_mult2 v374_r0).toNat := fun k0_t2 v374_r0 k0_hw2 k0_h1 => k0_hw2.1 k0_h1
theorem k0_off5_inb : ∀ (k0_t2 : Fin k0_t2_loop.trips) (v374_r0 : BitVec 32) (k0_hw2 : k0_chk2 k0_t2 v374_r0), ∀ (k0_h1 : k0_cond1 k0_t2 = 1#1), ∀ a, (k0_off5 v374_r0) a + S8x2x128.size a ≤ S288x2x128.size a := fun k0_t2 v374_r0 k0_hw2 k0_h1 => k0_hw2.2 k0_h1

def k0_off6 (k0_t2 : Fin k0_t2_loop.trips) : Fin 4 → Nat :=
  let c0_i32_16_r0 : BitVec 32 := 0#32
  let c1_i32_17_r0 : BitVec 32 := 1#32
  let arg9_r0 : BitVec 32 := Scf.iv c0_i32_16_r0 c1_i32_17_r0 k0_t2
  let c1_i32_158_r0 : BitVec 32 := 1#32
  let v358_r0 : BitVec 32 := Scalar.addi arg9_r0 c1_i32_158_r0
  let c2_i32_159_r0 : BitVec 32 := 2#32
  let c0_i32_160_r0 : BitVec 32 := 0#32
  let v359_r0 : BitVec 1 := Scalar.cmpi .eq c2_i32_159_r0 c0_i32_160_r0
  let c1_i32_161_r0 : BitVec 32 := 1#32
  let v360_r0 : BitVec 32 := Scalar.select v359_r0 c1_i32_161_r0 c2_i32_159_r0
  let v361_r0 : BitVec 32 := Scalar.remsi v358_r0 v360_r0
  let c0_i32_163_r0 : BitVec 32 := 0#32
  let v363_r0 : BitVec 1 := Scalar.cmpi .slt v361_r0 c0_i32_163_r0
  let c0_i32_164_r0 : BitVec 32 := 0#32
  let v364_r0 : BitVec 1 := Scalar.cmpi .slt v360_r0 c0_i32_164_r0
  let v365_r0 : BitVec 1 := Scalar.xori v363_r0 v364_r0
  let c0_i32_162_r0 : BitVec 32 := 0#32
  let v362_r0 : BitVec 1 := Scalar.cmpi .ne v361_r0 c0_i32_162_r0
  let v366_r0 : BitVec 1 := Scalar.andi v365_r0 v362_r0
  let v367_r0 : BitVec 32 := Scalar.addi v361_r0 v360_r0
  let v368_r0 : BitVec 32 := Scalar.select v366_r0 v367_r0 v361_r0
  let c0_i32_172_r0 : BitVec 32 := 0#32
  let c0_i32_173_r0 : BitVec 32 := 0#32
  ![v368_r0.toNat, 0, 0, 0]
def k0_off7 (k0_t3 : Fin k0_t3_loop.trips) : Fin 3 → Nat :=
  let c0_i32_166_r0 : BitVec 32 := 0#32
  let c1_i32_168_r0 : BitVec 32 := 1#32
  let arg11_r0 : BitVec 32 := Scf.iv c0_i32_166_r0 c1_i32_168_r0 k0_t3
  let c9_i32_r0 : BitVec 32 := 9#32
  let v379_r0 : BitVec 32 := Scalar.muli arg11_r0 c9_i32_r0
  let v382_r0 : Index := Scalar.indexCast v379_r0
  let c0_174_r0 : Index := 0#32
  ![v382_r0.toNat, 0, 0]
def k0_mult3 (k0_t2 : Fin k0_t2_loop.trips) : BitVec 32 :=
  let c0_i32_16_r0 : BitVec 32 := 0#32
  let c1_i32_17_r0 : BitVec 32 := 1#32
  let arg9_r0 : BitVec 32 := Scf.iv c0_i32_16_r0 c1_i32_17_r0 k0_t2
  let c256_i32_27_r0 : BitVec 32 := 256#32
  let v69_r0 : BitVec 32 := Scalar.muli arg9_r0 c256_i32_27_r0
  v69_r0
def k0_off8 (k0_t2 : Fin k0_t2_loop.trips) : Fin 2 → Nat :=
  let c0_28_r0 : Index := 0#32
  let c0_i32_16_r0 : BitVec 32 := 0#32
  let c1_i32_17_r0 : BitVec 32 := 1#32
  let arg9_r0 : BitVec 32 := Scf.iv c0_i32_16_r0 c1_i32_17_r0 k0_t2
  let c256_i32_27_r0 : BitVec 32 := 256#32
  let v69_r0 : BitVec 32 := Scalar.muli arg9_r0 c256_i32_27_r0
  let v70_r0 : BitVec 32 := v69_r0
  let v71_r0 : Index := Scalar.indexCast v70_r0
  ![0, v71_r0.toNat]
def k0_mult4 (k0_t2 : Fin k0_t2_loop.trips) : BitVec 32 :=
  let c0_i32_16_r0 : BitVec 32 := 0#32
  let c1_i32_17_r0 : BitVec 32 := 1#32
  let arg9_r0 : BitVec 32 := Scf.iv c0_i32_16_r0 c1_i32_17_r0 k0_t2
  let c128_i32_r0 : BitVec 32 := 128#32
  let v84_r0 : BitVec 32 := Scalar.muli arg9_r0 c128_i32_r0
  v84_r0
def k0_off9 (k0_t2 : Fin k0_t2_loop.trips) : Fin 2 → Nat :=
  let c0_i32_16_r0 : BitVec 32 := 0#32
  let c1_i32_17_r0 : BitVec 32 := 1#32
  let arg9_r0 : BitVec 32 := Scf.iv c0_i32_16_r0 c1_i32_17_r0 k0_t2
  let c128_i32_r0 : BitVec 32 := 128#32
  let v84_r0 : BitVec 32 := Scalar.muli arg9_r0 c128_i32_r0
  let v85_r0 : BitVec 32 := v84_r0
  let v86_r0 : Index := Scalar.indexCast v85_r0
  let c0_34_r0 : Index := 0#32
  ![v86_r0.toNat, 0]
def k0_off10 (k0_t2 : Fin k0_t2_loop.trips) : Fin 4 → Nat :=
  let c0_i32_16_r0 : BitVec 32 := 0#32
  let c1_i32_17_r0 : BitVec 32 := 1#32
  let arg9_r0 : BitVec 32 := Scf.iv c0_i32_16_r0 c1_i32_17_r0 k0_t2
  let c2_i32_r0 : BitVec 32 := 2#32
  let c0_i32_29_r0 : BitVec 32 := 0#32
  let v74_r0 : BitVec 1 := Scalar.cmpi .eq c2_i32_r0 c0_i32_29_r0
  let c1_i32_30_r0 : BitVec 32 := 1#32
  let v75_r0 : BitVec 32 := Scalar.select v74_r0 c1_i32_30_r0 c2_i32_r0
  let v76_r0 : BitVec 32 := Scalar.remsi arg9_r0 v75_r0
  let c0_i32_32_r0 : BitVec 32 := 0#32
  let v78_r0 : BitVec 1 := Scalar.cmpi .slt v76_r0 c0_i32_32_r0
  let c0_i32_33_r0 : BitVec 32 := 0#32
  let v79_r0 : BitVec 1 := Scalar.cmpi .slt v75_r0 c0_i32_33_r0
  let v80_r0 : BitVec 1 := Scalar.xori v78_r0 v79_r0
  let c0_i32_31_r0 : BitVec 32 := 0#32
  let v77_r0 : BitVec 1 := Scalar.cmpi .ne v76_r0 c0_i32_31_r0
  let v81_r0 : BitVec 1 := Scalar.andi v80_r0 v77_r0
  let v82_r0 : BitVec 32 := Scalar.addi v76_r0 v75_r0
  let v83_r0 : BitVec 32 := Scalar.select v81_r0 v82_r0 v76_r0
  let c0_i32_38_r0 : BitVec 32 := 0#32
  let c0_i32_39_r0 : BitVec 32 := 0#32
  ![v83_r0.toNat, 0, 0, 0]
def k0_mult5 (k0_t2 : Fin k0_t2_loop.trips) : BitVec 32 :=
  let c0_i32_16_r0 : BitVec 32 := 0#32
  let c1_i32_17_r0 : BitVec 32 := 1#32
  let arg9_r0 : BitVec 32 := Scf.iv c0_i32_16_r0 c1_i32_17_r0 k0_t2
  let c128_i32_64_r0 : BitVec 32 := 128#32
  let v155_r0 : BitVec 32 := Scalar.muli arg9_r0 c128_i32_64_r0
  v155_r0
def k0_off11 (k0_t2 : Fin k0_t2_loop.trips) : Fin 2 → Nat :=
  let c0_i32_16_r0 : BitVec 32 := 0#32
  let c1_i32_17_r0 : BitVec 32 := 1#32
  let arg9_r0 : BitVec 32 := Scf.iv c0_i32_16_r0 c1_i32_17_r0 k0_t2
  let c128_i32_64_r0 : BitVec 32 := 128#32
  let v155_r0 : BitVec 32 := Scalar.muli arg9_r0 c128_i32_64_r0
  let v156_r0 : BitVec 32 := v155_r0
  let v157_r0 : Index := Scalar.indexCast v156_r0
  let c256_65_r0 : Index := 256#32
  ![v157_r0.toNat, 256]
def k0_mult6 (k0_t2 : Fin k0_t2_loop.trips) : BitVec 32 :=
  let c0_i32_16_r0 : BitVec 32 := 0#32
  let c1_i32_17_r0 : BitVec 32 := 1#32
  let arg9_r0 : BitVec 32 := Scf.iv c0_i32_16_r0 c1_i32_17_r0 k0_t2
  let c128_i32_97_r0 : BitVec 32 := 128#32
  let v226_r0 : BitVec 32 := Scalar.muli arg9_r0 c128_i32_97_r0
  v226_r0
def k0_off12 (k0_t2 : Fin k0_t2_loop.trips) : Fin 2 → Nat :=
  let c0_i32_16_r0 : BitVec 32 := 0#32
  let c1_i32_17_r0 : BitVec 32 := 1#32
  let arg9_r0 : BitVec 32 := Scf.iv c0_i32_16_r0 c1_i32_17_r0 k0_t2
  let c128_i32_97_r0 : BitVec 32 := 128#32
  let v226_r0 : BitVec 32 := Scalar.muli arg9_r0 c128_i32_97_r0
  let v227_r0 : BitVec 32 := v226_r0
  let v228_r0 : Index := Scalar.indexCast v227_r0
  let c512_98_r0 : Index := 512#32
  ![v228_r0.toNat, 512]
def k0_mult7 (k0_t2 : Fin k0_t2_loop.trips) : BitVec 32 :=
  let c0_i32_16_r0 : BitVec 32 := 0#32
  let c1_i32_17_r0 : BitVec 32 := 1#32
  let arg9_r0 : BitVec 32 := Scf.iv c0_i32_16_r0 c1_i32_17_r0 k0_t2
  let c128_i32_130_r0 : BitVec 32 := 128#32
  let v297_r0 : BitVec 32 := Scalar.muli arg9_r0 c128_i32_130_r0
  v297_r0
def k0_off13 (k0_t2 : Fin k0_t2_loop.trips) : Fin 2 → Nat :=
  let c0_i32_16_r0 : BitVec 32 := 0#32
  let c1_i32_17_r0 : BitVec 32 := 1#32
  let arg9_r0 : BitVec 32 := Scf.iv c0_i32_16_r0 c1_i32_17_r0 k0_t2
  let c128_i32_130_r0 : BitVec 32 := 128#32
  let v297_r0 : BitVec 32 := Scalar.muli arg9_r0 c128_i32_130_r0
  let v298_r0 : BitVec 32 := v297_r0
  let v299_r0 : Index := Scalar.indexCast v298_r0
  let c768_131_r0 : Index := 768#32
  ![v299_r0.toNat, 768]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S4608 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2304x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S36x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S18x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x1x4608 : Shape := ⟨3, ![256, 1, 4608]⟩
abbrev S2304x36864 : Shape := ⟨2, ![2304, 36864]⟩
abbrev S36x36864 : Shape := ⟨2, ![36, 36864]⟩
abbrev S18x36864 : Shape := ⟨2, ![18, 36864]⟩
abbrev S4608 : Shape := ⟨1, ![4608]⟩
abbrev S_ : Shape := ⟨0, ![]⟩
abbrev S1x2304x36864 : Shape := ⟨3, ![1, 2304, 36864]⟩
abbrev S2x2304x36864 : Shape := ⟨3, ![2, 2304, 36864]⟩
abbrev S2304 : Shape := ⟨1, ![2304]⟩
abbrev S1x2304 : Shape := ⟨2, ![1, 2304]⟩
abbrev S2x2304 : Shape := ⟨2, ![2, 2304]⟩
abbrev S2x2304x1 : Shape := ⟨3, ![2, 2304, 1]⟩
abbrev S256x1x2304 : Shape := ⟨3, ![256, 1, 2304]⟩
abbrev S256x1x1x2304 : Shape := ⟨4, ![256, 1, 1, 2304]⟩
abbrev S256x1x2x2304 : Shape := ⟨4, ![256, 1, 2, 2304]⟩
abbrev S256x2x2304 : Shape := ⟨3, ![256, 2, 2304]⟩
abbrev S256x36864 : Shape := ⟨2, ![256, 36864]⟩

abbrev nBuf : Space → Nat
  | .hbm => 61
  | .vmem => 0
  | .smem => 0
  | _ => 0

abbrev bufTy : (tb : Table) → Fin (tcTables nBuf tb) → BufTy
  | .hbm, ⟨0, _⟩ => ⟨S256x1x4608, .bf16⟩
  | .hbm, ⟨1, _⟩ => ⟨S2304x36864, .i8⟩
  | .hbm, ⟨2, _⟩ => ⟨S36x36864, .bf16⟩
  | .hbm, ⟨3, _⟩ => ⟨S18x36864, .i8⟩
  | .hbm, ⟨4, _⟩ => ⟨S4608, .i32⟩
  | .hbm, ⟨5, _⟩ => ⟨S18x36864, .i32⟩
  | .hbm, ⟨6, _⟩ => ⟨S_, .i32⟩
  | .hbm, ⟨7, _⟩ => ⟨S18x36864, .i32⟩
  | .hbm, ⟨8, _⟩ => ⟨S18x36864, .i32⟩
  | .hbm, ⟨9, _⟩ => ⟨S_, .i32⟩
  | .hbm, ⟨10, _⟩ => ⟨S18x36864, .i32⟩
  | .hbm, ⟨11, _⟩ => ⟨S18x36864, .i32⟩
  | .hbm, ⟨12, _⟩ => ⟨S36x36864, .i32⟩
  | .hbm, ⟨13, _⟩ => ⟨S2304x36864, .i32⟩
  | .hbm, ⟨14, _⟩ => ⟨S_, .i32⟩
  | .hbm, ⟨15, _⟩ => ⟨S2304x36864, .i32⟩
  | .hbm, ⟨16, _⟩ => ⟨S2304x36864, .i32⟩
  | .hbm, ⟨17, _⟩ => ⟨S_, .i32⟩
  | .hbm, ⟨18, _⟩ => ⟨S2304x36864, .i32⟩
  | .hbm, ⟨19, _⟩ => ⟨S2304x36864, .i32⟩
  | .hbm, ⟨20, _⟩ => ⟨S_, .i32⟩
  | .hbm, ⟨21, _⟩ => ⟨S2304x36864, .i32⟩
  | .hbm, ⟨22, _⟩ => ⟨S2304x36864, .i32⟩
  | .hbm, ⟨23, _⟩ => ⟨S1x2304x36864, .i32⟩
  | .hbm, ⟨24, _⟩ => ⟨S1x2304x36864, .i32⟩
  | .hbm, ⟨25, _⟩ => ⟨S2x2304x36864, .i32⟩
  | .hbm, ⟨26, _⟩ => ⟨S2304, .i32⟩
  | .hbm, ⟨27, _⟩ => ⟨S2304, .i32⟩
  | .hbm, ⟨28, _⟩ => ⟨S1x2304, .i32⟩
  | .hbm, ⟨29, _⟩ => ⟨S1x2304, .i32⟩
  | .hbm, ⟨30, _⟩ => ⟨S2x2304, .i32⟩
  | .hbm, ⟨31, _⟩ => ⟨S_, .i32⟩
  | .hbm, ⟨32, _⟩ => ⟨S2x2304, .i32⟩
  | .hbm, ⟨33, _⟩ => ⟨S2x2304, .i1⟩
  | .hbm, ⟨34, _⟩ => ⟨S_, .i32⟩
  | .hbm, ⟨35, _⟩ => ⟨S2x2304, .i32⟩
  | .hbm, ⟨36, _⟩ => ⟨S2x2304, .i32⟩
  | .hbm, ⟨37, _⟩ => ⟨S2x2304, .i32⟩
  | .hbm, ⟨38, _⟩ => ⟨S2x2304x1, .i32⟩
  | .hbm, ⟨39, _⟩ => ⟨S2x2304x36864, .bf16⟩
  | .hbm, ⟨40, _⟩ => ⟨S_, .i32⟩
  | .hbm, ⟨41, _⟩ => ⟨S2x2304, .i32⟩
  | .hbm, ⟨42, _⟩ => ⟨S2x2304, .i1⟩
  | .hbm, ⟨43, _⟩ => ⟨S_, .i32⟩
  | .hbm, ⟨44, _⟩ => ⟨S2x2304, .i32⟩
  | .hbm, ⟨45, _⟩ => ⟨S2x2304, .i32⟩
  | .hbm, ⟨46, _⟩ => ⟨S2x2304, .i32⟩
  | .hbm, ⟨47, _⟩ => ⟨S2x2304x1, .i32⟩
  | .hbm, ⟨48, _⟩ => ⟨S2x2304x36864, .i32⟩
  | .hbm, ⟨49, _⟩ => ⟨S2x2304x36864, .bf16⟩
  | .hbm, ⟨50, _⟩ => ⟨S2x2304x36864, .bf16⟩
  | .hbm, ⟨51, _⟩ => ⟨S2x2304x36864, .bf16⟩
  | .hbm, ⟨52, _⟩ => ⟨S2x2304x36864, .bf16⟩
  | .hbm, ⟨53, _⟩ => ⟨S256x1x2304, .bf16⟩
  | .hbm, ⟨54, _⟩ => ⟨S256x1x2304, .bf16⟩
  | .hbm, ⟨55, _⟩ => ⟨S256x1x1x2304, .bf16⟩
  | .hbm, ⟨56, _⟩ => ⟨S256x1x1x2304, .bf16⟩
  | .hbm, ⟨57, _⟩ => ⟨S256x1x2x2304, .bf16⟩
  | .hbm, ⟨58, _⟩ => ⟨S256x2x2304, .bf16⟩
  | .hbm, ⟨59, _⟩ => ⟨S256x36864, .f32⟩
  | .hbm, ⟨60, _⟩ => ⟨S256x36864, .bf16⟩
  | _, _ => ⟨S256x1x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Proof.Groups.lean ====
/-
  What the precondition says: read as naturals, the group words are all below 36.
-/
module

public import proofs.«01_k».proof.Proof.Gen.Pre_groups_named

@[expose] public section

noncomputable section

namespace Cert.Proof

open Idealize.ShloMosaic

theorem andi_ofBool (a b : Bool) : IntOp.andi (BitVec.ofBool a) (BitVec.ofBool b) = BitVec.ofBool (a && b) := by
  cases a <;> cases b <;> rfl

theorem ofBool_eq_one (a : Bool) : BitVec.ofBool a = 1#1 ↔ a = true := by cases a <;> decide

/-- Where the precondition reads all ones, each word is a group's number. -/
theorem named_of_pre {F : FTy → Type} [FloatOps F] (x : FVec F Pre_groups_named.S256x1x4608 .bf16) (q : IVec Pre_groups_named.S2304x36864 8)
    (s : FVec F Pre_groups_named.S36x36864 .bf16) (z : IVec Pre_groups_named.S18x36864 8) (g : IVec Pre_groups_named.S4608 32)
    (h : Pre_groups_named.fn x q s z g = fun _ => 1#1) (j : Pre_groups_named.S4608.Idx) : BitVec.toNat (w := 32) (g j) < 36 := by
  have e := congrFun h j
  simp only [Pre_groups_named.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

end Cert.Proof

end
-- ==== Proof.Unit.lean ====
/-
  The matrix unit between trips: every register empty, no row past the 512th live; what four loading accumulates, one
  per column tile, do to that.
-/
module

public import Idealize.ShloMosaic.Lib.Mxu.Lemmas
public import Idealize.ShloMosaic.Lib.Mxu.PassChain

@[expose] public section

namespace Cert.Proof

open Idealize.ShloMosaic Mxu

variable {F : FTy → Type} [FloatOps F]

/-- Every register empty and no row at 512 or past it live. -/
structure Resting (s : Mxu F) : Prop where
  reg : ∀ q r, s.reg q r = none
  live : ∀ q (R : Fin 1024), 512 ≤ R.val → s.live q R = false

theorem resting_init : Resting (Mxu.init : Mxu F) := ⟨fun _ _ => by simp, fun _ _ _ => rfl⟩

/-- One column tile's step keeps it so. -/
theorem Resting.pushAcc {s : Mxu F} (h : Resting s) (q r : Fin 2) (A : Nat) (hA : 4 * A + 256 ≤ 512) (hf : Fits A 256)
    (v : FVec F (STile 256) .bf16) (x : FVec F (STile 256) .bf16) : Resting ((s.pushed q r false v).accLhs q r A x hf) := by
  refine ⟨fun q' r' => ?_, fun q' R hR => ?_⟩
  · by_cases e : q' = q ∧ r' = r
    · obtain ⟨rfl, rfl⟩ := e; exact reg_accLhs _ _ _ _ _ _
    · rw [reg_accLhs_ne _ _ _ _ _ _ _ _ e, reg_pushed_ne _ _ _ _ _ _ _ e]; exact h.reg q' r'
  · rw [live_accLhs, if_neg (by omega), live_pushed]; exact h.live q' R hR

/-- The four column tiles' accumulators popped, nothing is left. -/
theorem Resting.drained {s : Mxu F} (h : Resting s) (h0 : Fits 0 256) (h64 : Fits 64 256) :
    ((((s.pop 0 0 256 h0).pop 1 0 256 h0).pop 0 64 256 h64).pop 1 64 256 h64).Drained := by
  refine ⟨fun q r => ?_, fun q R => ?_⟩
  · simp [h.reg q r]
  · simp only [live_pop]
    have := R.isLt
    by_cases hR : 512 ≤ R.val
    · simp [h.live q R hR]
    · have hq : q = 0 ∨ q = 1 := by omega
      rcases hq with rfl | rfl <;> by_cases h2 : R.val < 256 <;> simp <;> omega

end Cert.Proof
-- ==== Proof.Kernel.Loops.lean ====
/-
  What each counted loop of `Kernel` keeps: its buffers held, the group words untouched and in range, and the matrix unit's
  registers empty with no live row past the 512th between trips.
-/
module

public import proofs.«01_k».proof.Proof.Gen.Kernel
public import proofs.«01_k».proof.Proof.Gen.Kernel.Skeleton
public import proofs.«01_k».proof.Proof.Gen.Kernel.Loops
public import proofs.«01_k».proof.Proof.Gen.Kernel.Frame
public import proofs.«01_k».proof.Proof.Unit

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Mxu

variable {F : FTy → Type} [BitOps F]

local notation "𝕄" => MT nD τ sig Unit (Elt F) ℕ (UR sig nD τ) ℕ

/-- Memref `M`'s buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The same over the view's own elements: what a window's block is held at. -/
abbrev held (c : Dev nD) {sp : Space} {S : Shape} {e : EltTy} (M : Memref sig .tc sp S e) (f : Bf (F := F) c M) : sProp 𝕄 :=
  M.view.loc (c : Thread nD τ) ↦[M.view.set]{fullShare} f

/-- The words of the group operand all name one of the 36 groups. -/
abbrev InRange (c : Dev nD) (arg1 : Memref sig .tc .smem S4608 .i32) (f1 : Bf (F := F) c arg1) : Prop :=
  ∀ (r : LoadRect S4608) (j : r.shape.Idx), BitVec.toNat (w := 32) (arg1.view.readAt (Elt F) r f1 j) < 36

/-- A group below 36 names eight rows inside the table, at an offset divisible by eight. -/
theorem chk1_of_lt (w : BitVec 32) (h : w.toNat < 36) : k0_chk1 w := by
  obtain ⟨n, rfl⟩ : ∃ n : Fin 36, w = BitVec.ofNat 32 n.val := ⟨⟨w.toNat, h⟩, by simp⟩
  revert n; decide +kernel

/-- The same for the tile expanded ahead. -/
theorem chk2_of_lt (k : Fin k0_t2_loop.trips) (w : BitVec 32) (h : w.toNat < 36) : k0_chk2 k w := by
  obtain ⟨n, rfl⟩ : ∃ n : Fin 36, w = BitVec.ofNat 32 n.val := ⟨⟨w.toNat, h⟩, by simp⟩
  revert n k; decide +kernel

/-- What the copying loops touch: the words, the table, the expanded rows at anything. -/
abbrev Copy (c : Dev nD) (arg1 : Memref sig .tc .smem S4608 .i32) (arg7 : Memref sig .tc .vmem S288x128 .i32) (arg8 : Memref sig .tc .vmem S2x2304x128 .i32)
    (f1 : Bf (F := F) c arg1) (f7 : Bf (F := F) c arg7) : sProp 𝕄 :=
  iprop(held c arg1 f1 ∗ pt c arg7 f7 ∗ ∃ f8 : Bf (F := F) c arg8, pt c arg8 f8)

set_option maxHeartbeats 4000000 in
/-- The first tile's rows, one trip a row block. -/
@[sl_loop, instance_reducible] def loopInv_k0_t1 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S2304x1024 .i8) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x128 .i32) (harg7 : arg7.IsWhole) (arg8 : Memref sig .tc .vmem S2x2304x128 .i32) (harg8 : arg8.IsWhole) (k0_mxu1 : Mxu F) (v16 : IVec S36x1024 32) (v36 : IVec S36x128 32) (init : BitVec 32)
    (f1 : Bf (F := F) c arg1) (f7 : Bf (F := F) c arg7) (hw : InRange c arg1 f1) :
    LoopInvTy_k0_t1 (F := F) Unit ℕ (UR sig nD τ) ℕ Variants.none c none Set.univ i arg1 harg1 arg2 harg2 arg3 harg3 arg4 harg4 arg5 harg5 arg6 harg6 arg7 harg7 arg8 harg8 k0_mxu1 v16 v36 init where
  inv _ _ := Copy c arg1 arg7 arg8 f1 f7
  step k acc := by
    unfold k0_t1_body
    iintro ⟨H1, H7, ⟨%f8, H8⟩⟩
    sl_exec (disch := exact chk1_of_lt _ (hw _ _))
    sl_step
    isplitl [H1]; · iexact H1
    isplitl [H7]; · iexact H7
    iexists _; iexact H8

set_option maxHeartbeats 4000000 in
/-- The next tile's rows, one trip a row block. -/
@[sl_loop, instance_reducible] def loopInv_k0_t3 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S2304x1024 .i8) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x128 .i32) (harg7 : arg7.IsWhole) (arg8 : Memref sig .tc .vmem S2x2304x128 .i32) (harg8 : arg8.IsWhole) (c0_i32_16_r0 : BitVec 32) (c1_i32_17_r0 : BitVec 32) (k0_t2 : Fin k0_t2_loop.trips) (k0_h1 : k0_cond1 k0_t2 = 1#1) (init : BitVec 32)
    (f1 : Bf (F := F) c arg1) (f7 : Bf (F := F) c arg7) (hw : InRange c arg1 f1) :
    LoopInvTy_k0_t3 (F := F) Unit ℕ (UR sig nD τ) ℕ Variants.none c none Set.univ i arg1 harg1 arg2 harg2 arg3 harg3 arg4 harg4 arg5 harg5 arg6 harg6 arg7 harg7 arg8 harg8 c0_i32_16_r0 c1_i32_17_r0 k0_t2 k0_h1 init where
  inv _ _ := Copy c arg1 arg7 arg8 f1 f7
  step k acc := by
    unfold k0_t3_body
    iintro ⟨H1, H7, ⟨%f8, H8⟩⟩
    sl_exec (disch := exact chk2_of_lt _ _ (hw _ _))
    sl_step
    isplitl [H1]; · iexact H1
    isplitl [H7]; · iexact H7
    iexists _; iexact H8

set_option maxHeartbeats 40000000 in
/-- The tiles, one trip a tile: the next tile's rows are copied when there is one, and the four column tiles pushed. -/
@[sl_loop, instance_reducible] def loopInv_k0_t2 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S2304x1024 .i8) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x128 .i32) (harg7 : arg7.IsWhole) (arg8 : Memref sig .tc .vmem S2x2304x128 .i32) (harg8 : arg8.IsWhole) (k0_mxu1 : Mxu F) (v16 : IVec S36x1024 32) (v36 : IVec S36x128 32) (init : BitVec 32 × Mxu F)
    (f1 : Bf (F := F) c arg1) (f2 : Bf (F := F) c arg2) (f3 : Bf (F := F) c arg3) (f7 : Bf (F := F) c arg7) (hw : InRange c arg1 f1) :
    LoopInvTy_k0_t2 (F := F) Unit ℕ (UR sig nD τ) ℕ Variants.none c none Set.univ i arg1 harg1 arg2 harg2 arg3 harg3 arg4 harg4 arg5 harg5 arg6 harg6 arg7 harg7 arg8 harg8 k0_mxu1 v16 v36 init where
  inv _ acc := iprop(⌜Resting acc.2⌝ ∗ held c arg2 f2 ∗ held c arg3 f3 ∗ Copy c arg1 arg7 arg8 f1 f7)
  step k acc := by
    obtain ⟨a, s⟩ := acc
    unfold k0_t2_body
    iintro ⟨%hs, H2, H3, H1, H7, ⟨%f8, H8⟩⟩
    have hs' : Resting s := hs
    have p0 := pushOk_of_none s 0 0 false (hs'.reg 0 0)
    by_cases h1 : k0_cond1 k = 1#1
    · sl_exec (disch := first
        | exact pushOk_of_none _ _ _ _ ((hs'.pushAcc 0 0 0 (by decide) _ _ _).reg 1 0)
        | exact pushOk_of_none _ _ _ _ (((hs'.pushAcc 0 0 0 (by decide) _ _ _).pushAcc 1 0 0 (by decide) _ _ _).reg 0 1)
        | exact pushOk_of_none _ _ _ _ ((((hs'.pushAcc 0 0 0 (by decide) _ _ _).pushAcc 1 0 0 (by decide) _ _ _).pushAcc 0 1 64 (by decide) _ _ _).reg 1 1))
      sl_step
      isplitr; · ipureintro; exact ((((hs'.pushAcc 0 0 0 (by decide) _ _ _).pushAcc 1 0 0 (by decide) _ _ _).pushAcc 0 1 64 (by decide) _ _ _).pushAcc 1 1 64 (by decide) _ _ _)
      isplitl [H2]; · iexact H2
      isplitl [H3]; · iexact H3
      isplitl [H1]; · iexact H1
      isplitl [H7]; · iexact H7
      iexists _; iexact H8
    · sl_exec (disch := first
        | exact pushOk_of_none _ _ _ _ ((hs'.pushAcc 0 0 0 (by decide) _ _ _).reg 1 0)
        | exact pushOk_of_none _ _ _ _ (((hs'.pushAcc 0 0 0 (by decide) _ _ _).pushAcc 1 0 0 (by decide) _ _ _).reg 0 1)
        | exact pushOk_of_none _ _ _ _ ((((hs'.pushAcc 0 0 0 (by decide) _ _ _).pushAcc 1 0 0 (by decide) _ _ _).pushAcc 0 1 64 (by decide) _ _ _).reg 1 1))
      sl_step
      isplitr; · ipureintro; exact ((((hs'.pushAcc 0 0 0 (by decide) _ _ _).pushAcc 1 0 0 (by decide) _ _ _).pushAcc 0 1 64 (by decide) _ _ _).pushAcc 1 1 64 (by decide) _ _ _)
      isplitl [H2]; · iexact H2
      isplitl [H3]; · iexact H3
      isplitl [H1]; · iexact H1
      isplitl [H7]; · iexact H7
      iexists _; iexact H8

end Cert.Proof.Kernel

end
-- ==== Proof.Kernel.Frame.lean ====
/-
  `Kernel` runs to its end from any words naming groups: one grid point's triple, the proof data that names nothing of the
  result, the run, and what it leaves of the arguments and of the semaphores.
-/
module

public import proofs.«01_k».proof.Proof.Kernel.Loops
public import proofs.«01_k».proof.Defs
public import proofs.«01_k».proof.Proof.Gen.Pre_groups_named
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Mxu
open Idealize.ShloMosaic.Pipeline (Dat Cfg Window BodyObligation cellOf)

variable {F : FTy → Type} [BitOps F]

local notation "𝕄" => MT nD τ sig Unit (Elt F) ℕ (UR sig nD τ) ℕ

/-- The groups a block of words names. -/
abbrev Named (x1 : Vec F S4608 .i32) : Prop := ∀ j, BitVec.toNat (w := 32) (x1 j) < 36

/-- A window's block held at some contents, as the pipeline states it. -/
theorem held_owns (c : Dev nD) {sp : Space} {S : Shape} {e : EltTy} (M : Memref sig .tc sp S e) (f : Bf (F := F) c M) :
    held c M f ⊢ iprop(∃ d, owns (c : Thread nD τ) M fullShare d) := by
  unfold owns
  iintro H
  iexists _; iexists f; isplitr; · (ipureintro; rfl)
  iexact H

set_option maxHeartbeats 4000000 in
/-- The kernel at one grid point, on whole buffers: it hands the inputs back as they were, the rest at anything. -/
theorem sound_kernel (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S2304x1024 .i8) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x128 .i32) (harg7 : arg7.IsWhole) (arg8 : Memref sig .tc .vmem S2x2304x128 .i32) (harg8 : arg8.IsWhole)
    (x1 : Vec F S4608 .i32) (x2 : Vec F S256x4608 .bf16) (x3 : Vec F S2304x1024 .i8) (x4 : Vec F S36x1024 .bf16) (x5 : Vec F S18x1024 .i8) (hx : Named x1)
    (f7 : Bf (F := F) c arg7) (f8 : Bf (F := F) c arg8) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ pt c arg7 f7 ∗ pt c arg8 f8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ (∃ d, owns (c : Thread nD τ) arg6 fullShare d)
            ∗ (∃ f, pt c arg7 f) ∗ (∃ f, pt c arg8 f)) -∗ K ⟨⟩))
      ⊢ wp frame (wpE (defs₀ (F := F)) Variants.none c none) Set.univ (cc0_gptq_linear i arg1 harg1 arg2 harg2 arg3 harg3 arg4 harg4 arg5 harg5 arg6 harg6 arg7 harg7 arg8 harg8) K := by
  simp only [cc0_gptq_linear_eq_skeleton]; unfold cc0_gptq_linear_skel
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, H7, H8, Hk⟩
  have hw : InRange c arg1 f1 := fun r j => by
    rw [View.readAt_apply, h1]; exact hx _
  have hr : Resting (Mxu.init (F := F)) := resting_init
  sl_exec (disch := first | exact resting_init | exact Resting.drained ‹_› _ _)
  sl_step
  iapply Hk
  isplitl [H1]; · (iexists f1; isplitr; · (ipureintro; exact h1)); iexact H1
  isplitl [H2]; · (iexists f2; isplitr; · (ipureintro; exact h2)); iexact H2
  isplitl [H3]; · (iexists f3; isplitr; · (ipureintro; exact h3)); iexact H3
  isplitl [H4]; · (iexists f4; isplitr; · (ipureintro; exact h4)); iexact H4
  isplitl [H5]; · (iexists f5; isplitr; · (ipureintro; exact h5)); iexact H5
  isplitl [H6]; · iapply (held_owns (F := F) c arg6); iexact H6
  isplitl [H7]; · iexists _; iexact H7
  iexists _; iexact H8

/-! ## The pipeline's proof data, its result left unnamed -/

variable (m : (ℓ : Loc nD τ sig) → Buf (Elt F) ℓ) (ρ : Dev nD → PrngReg)

/-- The result window alone is forgotten. -/
def forgets : Fin 6 → Bool := fun w => w == 5

/-- The proof data: the arrays as the region finds them, each input's buffer at its block after the body, the result's at
    anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body is called with at a point, window by window, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- The block of group words read at any point names groups when the array does. -/
theorem named_block (c : Dev nD) (t : Fin cfg0.N) (hn : Named (m ((c : Thread nD τ).loc main_arg4))) : Named (iblk m c 0 t) := fun j => by
  unfold iblk
  rw [View.read_apply, cast_eq]
  exact hn _

set_option maxHeartbeats 4000000 in
theorem sound_body (c : Dev nD) (hn : Named (m ((c : Thread nD τ).loc main_arg4))) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  rw [scopedRest0_eq]
  iintro ⟨⟨⟨⟨%f7, H7⟩, ⟨%f8, H8⟩⟩, HP⟩, Ho, ⟨%d0, H0⟩, ⟨%d1, H1⟩, ⟨%d2, H2⟩, ⟨%d3, H3⟩, ⟨%d4, H4⟩, H5⟩
  iapply (sound_kernel c (grid0.coords t) _ _ _ _ _ _ _ _ _ _ _ _ _ (Memref.isWhole_whole _) _ (Memref.isWhole_whole _) (iblk m c 0 t) (iblk m c 1 t) (iblk m c 2 t) (iblk m c 3 t) (iblk m c 4 t) (named_block m c t hn) f7 f8 _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  iintro ⟨H0, H1, H2, H3, H4, H5, H7, H8⟩
  isplitl [HP H7 H8]
  · isplitr [HP]
    · isplitl [H7]; · iexact H7
      iexact H8
    · iexact HP
  isplitl [Ho]; · iexact Ho
  isplitl [H0]; · iexact H0
  isplitl [H1]; · iexact H1
  isplitl [H2]; · iexact H2
  isplitl [H3]; · iexact H3
  isplitl [H4]; · iexact H4
  iexact H5

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) (hn : Named (m ((c : Thread nD τ).loc main_arg4))) :
    BodyObligation (dats (F := F) m 0 c) (defs₀ (F := F)) Variants.none () Set.univ forgets := fun t => by
  rw [bigSep_W0, bigSep_W0, defs₀_row]
  exact triple_restated (sound_body m c hn t) rfl .rfl fun _ => .rfl

/-! ## The run and the frame -/

set_option backward.isDefEq.respectTransparency.types false in
/-- Every run ends, the arrays as the proof data say and every counter at zero. -/
theorem run_main (hn : ∀ c : Dev nD, Named (m ((c : Thread nD τ).loc main_arg4))) : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c (hn c)).loose) (hshare := fun c => (dats m 0 c).share_full fun _ => rfl)
    (howed := fun _ _ => rfl) (V := V m) (hmain := hmain m Variants.none) (hA := A_eq m) (hΦ := fun _ _ => rfl)

/-- THE FRAME, from any memory whose group words name groups: the arguments end unchanged, every counter at zero. -/
theorem frame (hn : ∀ c : Dev nD, Named (m ((c : Thread nD τ).loc main_arg4))) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_arg0 (Pipeline.mem_restRefs_of main_arg0 (by decide) (by decide)) |>.trans (V_main_arg0 m c),
      (h.1.arr_in c 2 rfl).trans ((A_eq m c 2).trans (V_main_arg1 m c)),
      (h.1.arr_in c 3 rfl).trans ((A_eq m c 3).trans (V_main_arg2 m c)),
      (h.1.arr_in c 4 rfl).trans ((A_eq m c 4).trans (V_main_arg3 m c)),
      (h.1.arr_in c 0 rfl).trans ((A_eq m c 0).trans (V_main_arg4 m c))⟩, h.2⟩) (run_main m ρ hn)

end Cert.Proof.Kernel

end
-- ==== Proof.KernelIdeal.Base.lean ====
/-
  What both readings of `KernelIdeal`'s loops start from: a buffer held, the words in range, and that a word in range passes the
  kernel's own bounds check.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Unit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Mxu

variable {F : FTy → Type} [FloatOps F]

local notation "𝕄" => MT nD τ sig Unit (Elt F) ℕ (UR sig nD τ) ℕ

/-- Memref `M`'s buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The same over the view's own elements: what a window's block is held at. -/
abbrev held (c : Dev nD) {sp : Space} {S : Shape} {e : EltTy} (M : Memref sig .tc sp S e) (f : Bf (F := F) c M) : sProp 𝕄 :=
  M.view.loc (c : Thread nD τ) ↦[M.view.set]{fullShare} f

/-- The groups a block of words names. -/
abbrev Named (x1 : Vec F S4608 .i32) : Prop := ∀ j, BitVec.toNat (w := 32) (x1 j) < 36

/-- The words of the group operand all name one of the 36 groups. -/
abbrev InRange (c : Dev nD) (arg1 : Memref sig .tc .smem S4608 .i32) (f1 : Bf (F := F) c arg1) : Prop :=
  ∀ (r : LoadRect S4608) (j : r.shape.Idx), BitVec.toNat (w := 32) (arg1.view.readAt (Elt F) r f1 j) < 36

/-- A group below 36 names eight rows inside the table, at an offset divisible by eight. -/
theorem chk1_of_lt (w : BitVec 32) (h : w.toNat < 36) : k0_chk1 w := by
  obtain ⟨n, rfl⟩ : ∃ n : Fin 36, w = BitVec.ofNat 32 n.val := ⟨⟨w.toNat, h⟩, by simp⟩
  revert n; decide +kernel

/-- The same for the tile expanded ahead. -/
theorem chk2_of_lt (k : Fin k0_t2_loop.trips) (w : BitVec 32) (h : w.toNat < 36) : k0_chk2 k w := by
  obtain ⟨n, rfl⟩ : ∃ n : Fin 36, w = BitVec.ofNat 32 n.val := ⟨⟨w.toNat, h⟩, by simp⟩
  revert n k; decide +kernel

end Cert.Proof.KernelIdeal

end
-- ==== Proof.KernelIdeal.Loops.lean ====
/-
  What each counted loop of `KernelIdeal` keeps: its buffers held, the group words untouched and in range, and the matrix unit's
  registers empty with no live row past the 512th between trips.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Unit
public import proofs.«01_k».proof.Proof.KernelIdeal.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Mxu

variable {F : FTy → Type} [FloatOps F]

local notation "𝕄" => MT nD τ sig Unit (Elt F) ℕ (UR sig nD τ) ℕ

/-- What the copying loops touch: the words, the table, the expanded rows at anything. -/
abbrev Copy (c : Dev nD) (arg1 : Memref sig .tc .smem S4608 .i32) (arg7 : Memref sig .tc .vmem S288x2x128 .bf16) (arg8 : Memref sig .tc .vmem S2x2304x2x128 .bf16)
    (f1 : Bf (F := F) c arg1) (f7 : Bf (F := F) c arg7) : sProp 𝕄 :=
  iprop(held c arg1 f1 ∗ pt c arg7 f7 ∗ ∃ f8 : Bf (F := F) c arg8, pt c arg8 f8)

set_option maxHeartbeats 4000000 in
/-- The first tile's rows, one trip a row block. -/
@[sl_loop, instance_reducible] def loopInv_k0_t1 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S2304x1024 .i8) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2x2304x2x128 .bf16) (harg8 : arg8.IsWhole) (init : BitVec 32)
    (f1 : Bf (F := F) c arg1) (f7 : Bf (F := F) c arg7) (hw : InRange c arg1 f1) :
    LoopInvTy_k0_t1 (F := F) Unit ℕ (UR sig nD τ) ℕ Variants.none c none Set.univ i arg1 harg1 arg2 harg2 arg3 harg3 arg4 harg4 arg5 harg5 arg6 harg6 arg7 harg7 arg8 harg8 init where
  inv _ _ := Copy c arg1 arg7 arg8 f1 f7
  step k acc := by
    unfold k0_t1_body
    iintro ⟨H1, H7, ⟨%f8, H8⟩⟩
    sl_exec (disch := exact chk1_of_lt _ (hw _ _))
    sl_step
    isplitl [H1]; · iexact H1
    isplitl [H7]; · iexact H7
    iexists _; iexact H8

set_option maxHeartbeats 4000000 in
/-- The next tile's rows, one trip a row block. -/
@[sl_loop, instance_reducible] def loopInv_k0_t3 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S2304x1024 .i8) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2x2304x2x128 .bf16) (harg8 : arg8.IsWhole) (c0_i32_16_r0 : BitVec 32) (c1_i32_17_r0 : BitVec 32) (k0_t2 : Fin k0_t2_loop.trips) (k0_h1 : k0_cond1 k0_t2 = 1#1) (init : BitVec 32)
    (f1 : Bf (F := F) c arg1) (f7 : Bf (F := F) c arg7) (hw : InRange c arg1 f1) :
    LoopInvTy_k0_t3 (F := F) Unit ℕ (UR sig nD τ) ℕ Variants.none c none Set.univ i arg1 harg1 arg2 harg2 arg3 harg3 arg4 harg4 arg5 harg5 arg6 harg6 arg7 harg7 arg8 harg8 c0_i32_16_r0 c1_i32_17_r0 k0_t2 k0_h1 init where
  inv _ _ := Copy c arg1 arg7 arg8 f1 f7
  step k acc := by
    unfold k0_t3_body
    iintro ⟨H1, H7, ⟨%f8, H8⟩⟩
    sl_exec (disch := exact chk2_of_lt _ _ (hw _ _))
    sl_step
    isplitl [H1]; · iexact H1
    isplitl [H7]; · iexact H7
    iexists _; iexact H8

set_option maxHeartbeats 40000000 in
/-- The tiles, one trip a tile: the next tile's rows are copied when there is one, and the four column tiles pushed. -/
@[sl_loop, instance_reducible] def loopInv_k0_t2 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S2304x1024 .i8) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2x2304x2x128 .bf16) (harg8 : arg8.IsWhole) (init : BitVec 32 × Mxu F)
    (f1 : Bf (F := F) c arg1) (f2 : Bf (F := F) c arg2) (f3 : Bf (F := F) c arg3) (f7 : Bf (F := F) c arg7) (hw : InRange c arg1 f1) :
    LoopInvTy_k0_t2 (F := F) Unit ℕ (UR sig nD τ) ℕ Variants.none c none Set.univ i arg1 harg1 arg2 harg2 arg3 harg3 arg4 harg4 arg5 harg5 arg6 harg6 arg7 harg7 arg8 harg8 init where
  inv _ acc := iprop(⌜Resting acc.2⌝ ∗ held c arg2 f2 ∗ held c arg3 f3 ∗ Copy c arg1 arg7 arg8 f1 f7)
  step k acc := by
    obtain ⟨a, s⟩ := acc
    unfold k0_t2_body
    iintro ⟨%hs, H2, H3, H1, H7, ⟨%f8, H8⟩⟩
    have hs' : Resting s := hs
    have p0 := pushOk_of_none s 0 0 false (hs'.reg 0 0)
    by_cases h1 : k0_cond1 k = 1#1
    · sl_exec (disch := first
        | exact pushOk_of_none _ _ _ _ ((hs'.pushAcc 0 0 0 (by decide) _ _ _).reg 1 0)
        | exact pushOk_of_none _ _ _ _ (((hs'.pushAcc 0 0 0 (by decide) _ _ _).pushAcc 1 0 0 (by decide) _ _ _).reg 0 1)
        | exact pushOk_of_none _ _ _ _ ((((hs'.pushAcc 0 0 0 (by decide) _ _ _).pushAcc 1 0 0 (by decide) _ _ _).pushAcc 0 1 64 (by decide) _ _ _).reg 1 1))
      sl_step
      isplitr; · ipureintro; exact ((((hs'.pushAcc 0 0 0 (by decide) _ _ _).pushAcc 1 0 0 (by decide) _ _ _).pushAcc 0 1 64 (by decide) _ _ _).pushAcc 1 1 64 (by decide) _ _ _)
      isplitl [H2]; · iexact H2
      isplitl [H3]; · iexact H3
      isplitl [H1]; · iexact H1
      isplitl [H7]; · iexact H7
      iexists _; iexact H8
    · sl_exec (disch := first
        | exact pushOk_of_none _ _ _ _ ((hs'.pushAcc 0 0 0 (by decide) _ _ _).reg 1 0)
        | exact pushOk_of_none _ _ _ _ (((hs'.pushAcc 0 0 0 (by decide) _ _ _).pushAcc 1 0 0 (by decide) _ _ _).reg 0 1)
        | exact pushOk_of_none _ _ _ _ ((((hs'.pushAcc 0 0 0 (by decide) _ _ _).pushAcc 1 0 0 (by decide) _ _ _).pushAcc 0 1 64 (by decide) _ _ _).reg 1 1))
      sl_step
      isplitr; · ipureintro; exact ((((hs'.pushAcc 0 0 0 (by decide) _ _ _).pushAcc 1 0 0 (by decide) _ _ _).pushAcc 0 1 64 (by decide) _ _ _).pushAcc 1 1 64 (by decide) _ _ _)
      isplitl [H2]; · iexact H2
      isplitl [H3]; · iexact H3
      isplitl [H1]; · iexact H1
      isplitl [H7]; · iexact H7
      iexists _; iexact H8

end Cert.Proof.KernelIdeal

end
-- ==== Proof.KernelIdeal.Frame.lean ====
/-
  `KernelIdeal` runs to its end from any words naming groups: one grid point's triple, the proof data that names nothing of the
  result, the run, and what it leaves of the arguments and of the semaphores.
-/
module

public import proofs.«01_k».proof.Proof.KernelIdeal.Loops
public import proofs.«01_k».proof.Defs
public import proofs.«01_k».proof.Proof.Gen.Pre_groups_named
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Mxu
open Idealize.ShloMosaic.Pipeline (Dat Cfg Window BodyObligation cellOf)

variable {F : FTy → Type} [FloatOps F]

local notation "𝕄" => MT nD τ sig Unit (Elt F) ℕ (UR sig nD τ) ℕ

/-- A window's block held at some contents, as the pipeline states it. -/
theorem held_owns (c : Dev nD) {sp : Space} {S : Shape} {e : EltTy} (M : Memref sig .tc sp S e) (f : Bf (F := F) c M) :
    held c M f ⊢ iprop(∃ d, owns (c : Thread nD τ) M fullShare d) := by
  unfold owns
  iintro H
  iexists _; iexists f; isplitr; · (ipureintro; rfl)
  iexact H

set_option maxHeartbeats 4000000 in
/-- The kernel at one grid point, on whole buffers: it hands the inputs back as they were, the rest at anything. -/
theorem sound_kernel (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S2304x1024 .i8) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2x2304x2x128 .bf16) (harg8 : arg8.IsWhole)
    (x1 : Vec F S4608 .i32) (x2 : Vec F S256x4608 .bf16) (x3 : Vec F S2304x1024 .i8) (x4 : Vec F S36x1024 .bf16) (x5 : Vec F S18x1024 .i8) (hx : Named x1)
    (f7 : Bf (F := F) c arg7) (f8 : Bf (F := F) c arg8) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ pt c arg7 f7 ∗ pt c arg8 f8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ (∃ d, owns (c : Thread nD τ) arg6 fullShare d)
            ∗ (∃ f, pt c arg7 f) ∗ (∃ f, pt c arg8 f)) -∗ K ⟨⟩))
      ⊢ wp frame (wpE (defs₀ (F := F)) Variants.none c none) Set.univ (cc0_gptq_linear i arg1 harg1 arg2 harg2 arg3 harg3 arg4 harg4 arg5 harg5 arg6 harg6 arg7 harg7 arg8 harg8) K := by
  simp only [cc0_gptq_linear_eq_skeleton]; unfold cc0_gptq_linear_skel
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, H7, H8, Hk⟩
  have hw : InRange c arg1 f1 := fun r j => by
    rw [View.readAt_apply, h1]; exact hx _
  have hr : Resting (Mxu.init (F := F)) := resting_init
  sl_exec (disch := first | exact resting_init | exact Resting.drained ‹_› _ _)
  sl_step
  iapply Hk
  isplitl [H1]; · (iexists f1; isplitr; · (ipureintro; exact h1)); iexact H1
  isplitl [H2]; · (iexists f2; isplitr; · (ipureintro; exact h2)); iexact H2
  isplitl [H3]; · (iexists f3; isplitr; · (ipureintro; exact h3)); iexact H3
  isplitl [H4]; · (iexists f4; isplitr; · (ipureintro; exact h4)); iexact H4
  isplitl [H5]; · (iexists f5; isplitr; · (ipureintro; exact h5)); iexact H5
  isplitl [H6]; · iapply (held_owns (F := F) c arg6); iexact H6
  isplitl [H7]; · iexists _; iexact H7
  iexists _; iexact H8

/-! ## The pipeline's proof data, its result left unnamed -/

variable (m : (ℓ : Loc nD τ sig) → Buf (Elt F) ℓ) (ρ : Dev nD → PrngReg)

/-- The result window alone is forgotten. -/
def forgets : Fin 6 → Bool := fun w => w == 5

/-- The proof data: the arrays as the region finds them, each input's buffer at its block after the body, the result's at
    anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body is called with at a point, window by window, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- The block of group words read at any point names groups when the array does. -/
theorem named_block (c : Dev nD) (t : Fin cfg0.N) (hn : Named (m ((c : Thread nD τ).loc main_arg4))) : Named (iblk m c 0 t) := fun j => by
  unfold iblk
  rw [View.read_apply, cast_eq]
  exact hn _

set_option maxHeartbeats 4000000 in
theorem sound_body (c : Dev nD) (hn : Named (m ((c : Thread nD τ).loc main_arg4))) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  rw [scopedRest0_eq]
  iintro ⟨⟨⟨⟨%f7, H7⟩, ⟨%f8, H8⟩⟩, HP⟩, Ho, ⟨%d0, H0⟩, ⟨%d1, H1⟩, ⟨%d2, H2⟩, ⟨%d3, H3⟩, ⟨%d4, H4⟩, H5⟩
  iapply (sound_kernel c (grid0.coords t) _ _ _ _ _ _ _ _ _ _ _ _ _ (Memref.isWhole_whole _) _ (Memref.isWhole_whole _) (iblk m c 0 t) (iblk m c 1 t) (iblk m c 2 t) (iblk m c 3 t) (iblk m c 4 t) (named_block m c t hn) f7 f8 _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  iintro ⟨H0, H1, H2, H3, H4, H5, H7, H8⟩
  isplitl [HP H7 H8]
  · isplitr [HP]
    · isplitl [H7]; · iexact H7
      iexact H8
    · iexact HP
  isplitl [Ho]; · iexact Ho
  isplitl [H0]; · iexact H0
  isplitl [H1]; · iexact H1
  isplitl [H2]; · iexact H2
  isplitl [H3]; · iexact H3
  isplitl [H4]; · iexact H4
  iexact H5

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) (hn : Named (m ((c : Thread nD τ).loc main_arg4))) :
    BodyObligation (dats (F := F) m 0 c) (defs₀ (F := F)) Variants.none () Set.univ forgets := fun t => by
  rw [bigSep_W0, bigSep_W0, defs₀_row]
  exact triple_restated (sound_body m c hn t) rfl .rfl fun _ => .rfl

/-! ## The run and the frame -/

set_option backward.isDefEq.respectTransparency.types false in
/-- Every run ends, the arrays as the proof data say and every counter at zero. -/
theorem run_main (hn : ∀ c : Dev nD, Named (m ((c : Thread nD τ).loc main_arg4))) : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c (hn c)).loose) (hshare := fun c => (dats m 0 c).share_full fun _ => rfl)
    (howed := fun _ _ => rfl) (V := V m) (hmain := hmain m Variants.none) (hA := A_eq m) (hΦ := fun _ _ => rfl)

/-- THE FRAME, from any memory whose group words name groups: the arguments end unchanged, every counter at zero. -/
theorem frame (hn : ∀ c : Dev nD, Named (m ((c : Thread nD τ).loc main_arg4))) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_arg0 (Pipeline.mem_restRefs_of main_arg0 (by decide) (by decide)) |>.trans (V_main_arg0 m c),
      (h.1.arr_in c 2 rfl).trans ((A_eq m c 2).trans (V_main_arg1 m c)),
      (h.1.arr_in c 3 rfl).trans ((A_eq m c 3).trans (V_main_arg2 m c)),
      (h.1.arr_in c 4 rfl).trans ((A_eq m c 4).trans (V_main_arg3 m c)),
      (h.1.arr_in c 0 rfl).trans ((A_eq m c 0).trans (V_main_arg4 m c))⟩, h.2⟩) (run_main m ρ hn)

end Cert.Proof.KernelIdeal

end
-- ==== Proof.ReferenceIdeal.Run.lean ====
/-
  The reference’s run, read back operation by operation.
-/
module

public import proofs.«01_k».proof.Proof.Gen.ReferenceIdeal
public import proofs.«01_k».proof.Proof.Gen.ReferenceIdeal.Run
public import proofs.«01_k».proof.Proof.Gen.ReferenceIdeal.Read

@[expose] public section

end
-- ==== Proof.KernelIdeal.Slot.lean ====
/-
  The expanded rows, two slots of 2304 row blocks: what is read of them through one slot's view, what a store of eight rows there
  changes, and when a slot holds the rows of a tile's groups.
-/
module

public import proofs.«01_k».proof.Proof.KernelIdeal.Base
public import Idealize.ShloMosaic.Lib.Pointwise
public import Idealize.ShloMosaic.Lib.Pipeline.Value
public import Idealize.ShloMosaic.Lib.Bf16PairInverse

@[expose] public section

set_option maxRecDepth 16384

noncomputable section

namespace Cert.Proof.KernelIdeal

open Cert.KernelIdeal Cert.KernelIdeal.Gen
open Idealize.ShloMosaic Idealize.ShloMosaic.TcCoe
open Idealize.ShloMosaic.ValueIdx hiding ix1 ix2 ix3 ix4

section

variable {Val : EltTy → Type}

/-- One slot's view reads the slot. -/
theorem read_slot (M : Memref sig .tc .vmem S2x2304x2x128 .bf16) (s : Fin 2) (off : Fin 4 → ℕ) (h : off = ![s.val, 0, 0, 0])
    (inb : ∀ a, off a + S1x2304x2x128.size a ≤ S2x2304x2x128.size a) (hr) (hq : S1x2304x2x128.Squeezes S2304x2x128)
    (f : M.view.ty.Contents Val) (r : Fin 2304) (p : Fin 2) (l : Fin 128) :
    ((M.slice (Rect.unit (s := S2x2304x2x128) off S1x2304x2x128.size inb) hr).squeeze S2304x2x128 hq).view.read Val f (ix3 r p l)
      = M.view.read Val f (ix4 s r p l) := by
  subst h
  have h1 : ((M.slice (Rect.unit (s := S2x2304x2x128) ![s.val, 0, 0, 0] S1x2304x2x128.size inb) hr).squeeze S2304x2x128 hq).view.read Val f (ix3 r p l)
      = M.view.read Val f ((Rect.unit (s := S2x2304x2x128) ![s.val, 0, 0, 0] S1x2304x2x128.size inb).emb (Shape.reshapeEquiv hq.numel_eq (ix3 r p l))) := rfl
  rw [h1, Shape.reshapeEquiv_cons_one]
  congr 1
  funext a
  apply Fin.ext
  rw [Rect.emb_apply]
  match a with
  | ⟨0, _⟩ => show s.val + 1 * 0 = s.val; omega
  | ⟨1, _⟩ => show 0 + 1 * r.val = r.val; omega
  | ⟨2, _⟩ => show 0 + 1 * p.val = p.val; omega
  | ⟨3, _⟩ => show 0 + 1 * l.val = l.val; omega

/-- A store through the other slot's view leaves this slot as it was. -/
theorem read_other_slot (M : Memref sig .tc .vmem S2x2304x2x128 .bf16) (s s' : Fin 2) (hs : s ≠ s') (off : Fin 4 → ℕ) (h : off = ![s'.val, 0, 0, 0])
    (inb : ∀ a, off a + S1x2304x2x128.size a ≤ S2x2304x2x128.size a) (hr) (hq : S1x2304x2x128.Squeezes S2304x2x128)
    (R : Rect S2304x2x128) (f : M.view.ty.Contents Val) (w : R.shape.Idx → Val .bf16) (Ms : Finset R.shape.Idx)
    (r : Fin 2304) (p : Fin 2) (l : Fin 128) :
    M.view.read Val ((((M.slice (Rect.unit (s := S2x2304x2x128) off S1x2304x2x128.size inb) hr).squeeze S2304x2x128 hq).access R).write Val f w Ms) (ix4 s r p l)
      = M.view.read Val f (ix4 s r p l) := by
  subst h
  apply View.read_congr_at
  apply View.write_of_not_mem
  intro hm
  obtain ⟨x, _, hx⟩ := Finset.mem_map.mp hm
  have e : (((M.slice (Rect.unit (s := S2x2304x2x128) ![s'.val, 0, 0, 0] S1x2304x2x128.size inb) hr).squeeze S2304x2x128 hq).access R).emb x
      = M.view.emb ((Rect.unit (s := S2x2304x2x128) ![s'.val, 0, 0, 0] S1x2304x2x128.size inb).emb (Shape.reshapeEquiv hq.numel_eq (R.emb x))) := rfl
  rw [e, Shape.reshapeEquiv_cons_one] at hx
  have h := M.view.emb.injective hx
  have h0 := congrArg (fun i : S2x2304x2x128.Idx => (i 0 : ℕ)) h
  simp only [Rect.emb_apply] at h0
  have h4 : (s' : ℕ) + 1 * 0 = (s : ℕ) := h0
  exact hs (Fin.ext (by omega))

/-- A store through a slot's own view, read back at a place its rectangle holds: the payload there. -/
theorem read_own_hit (M : Memref sig .tc .vmem S2x2304x2x128 .bf16) (s : Fin 2) (off : Fin 4 → ℕ) (h : off = ![s.val, 0, 0, 0])
    (inb : ∀ a, off a + S1x2304x2x128.size a ≤ S2x2304x2x128.size a) (hr) (hq : S1x2304x2x128.Squeezes S2304x2x128)
    (R : Rect S2304x2x128) (f : M.view.ty.Contents Val) (w : R.shape.Idx → Val .bf16) (x : R.shape.Idx)
    (r : Fin 2304) (p : Fin 2) (l : Fin 128) (hx : R.emb x = ix3 r p l) :
    M.view.read Val ((((M.slice (Rect.unit (s := S2x2304x2x128) off S1x2304x2x128.size inb) hr).squeeze S2304x2x128 hq).access R).write Val f w Finset.univ) (ix4 s r p l)
      = w x := by
  rw [← read_slot M s off h inb hr hq, ← hx]
  exact View.read_slice_write_emb (Val := Val)
    (v := ((M.slice (Rect.unit (s := S2x2304x2x128) off S1x2304x2x128.size inb) hr).squeeze S2304x2x128 hq).view) R f w (Finset.mem_univ x)

/-- The same at a place its rectangle does not hold: what was there before. -/
theorem read_own_miss (M : Memref sig .tc .vmem S2x2304x2x128 .bf16) (s : Fin 2) (off : Fin 4 → ℕ) (h : off = ![s.val, 0, 0, 0])
    (inb : ∀ a, off a + S1x2304x2x128.size a ≤ S2x2304x2x128.size a) (hr) (hq : S1x2304x2x128.Squeezes S2304x2x128)
    (R : Rect S2304x2x128) (f : M.view.ty.Contents Val) (w : R.shape.Idx → Val .bf16) (Ms : Finset R.shape.Idx)
    (r : Fin 2304) (p : Fin 2) (l : Fin 128) (hy : ix3 r p l ∉ R.set) :
    M.view.read Val ((((M.slice (Rect.unit (s := S2x2304x2x128) off S1x2304x2x128.size inb) hr).squeeze S2304x2x128 hq).access R).write Val f w Ms) (ix4 s r p l)
      = M.view.read Val f (ix4 s r p l) := by
  rw [← read_slot M s off h inb hr hq, ← read_slot M s off h inb hr hq]
  apply View.read_slice_write_of_not_mem
  intro hm
  apply hy
  rw [← Rect.map_emb_univ]
  obtain ⟨x, _, hx⟩ := Finset.mem_map.mp hm
  exact Finset.mem_map.mpr ⟨x, Finset.mem_univ _, hx⟩

end

/-! ## A slot filled with a tile's rows -/

variable {F : FTy → Type} [FloatOps F]

/-- The group of channel `k`. -/
def grp (x1 : Vec F S4608 .i32) (hx : Named x1) (k : Fin 4608) : Fin 36 := ⟨BitVec.toNat (w := 32) (x1 (ix1 k)), hx _⟩

/-- Channel `k` of tile `t`. -/
def chan (t : Fin 18) (k : Fin 256) : Fin 4608 := ⟨256 * t.val + k.val, by omega⟩

/-- The slot tile `t` is expanded into. -/
def slot (t : Fin 18) : Fin 2 := ⟨t.val % 2, by omega⟩

/-- The row of the expanded tile that holds column block `j` of channel `k`. -/
def rowE (k : Fin 256) (j : Fin 8) : Fin 2304 := ⟨9 * k.val + j.val, by omega⟩

/-- The row of the table that holds column block `j` of group `g`. -/
def rowT (g : Fin 36) (j : Fin 8) : Fin 288 := ⟨8 * g.val + j.val, by omega⟩

/-- Slot `slot t` holds, for the first `n` channels of tile `t`, the table's rows of their groups. -/
def Filled {α : Type} (gw : Fin 4608 → Fin 36) (x7 : S288x2x128.Idx → α) (t : Fin 18) (n : ℕ) (x8 : S2x2304x2x128.Idx → α) : Prop :=
  ∀ (k : Fin 256), k.val < n → ∀ (j : Fin 8) (p : Fin 2) (l : Fin 128),
    x8 (ix4 (slot t) (rowE k j) p l) = x7 (ix3 (rowT (gw (chan t k)) j) p l)

/-- Eight rows copied are the eight rows. -/
theorem pay2_eq (v : Vec F S8x2x128 .bf16) : k0_pay2 v = v := by
  unfold k0_pay2
  simp only [shapeCast_shapeCast, shapeCast_self]
  exact interleaveRows_rowsOfParity _ _

theorem pay8_eq (v : Vec F S8x2x128 .bf16) : k0_pay8 v = v := pay2_eq v

/-- One more channel copied. -/
theorem filled_step (gw : Fin 4608 → Fin 36) (M7 : Memref sig .tc .vmem S288x2x128 .bf16) (M : Memref sig .tc .vmem S2x2304x2x128 .bf16)
    (f7 : M7.view.ty.Contents (Elt F)) (f : M.view.ty.Contents (Elt F)) (t : Fin 18) (k : Fin 256)
    (off : Fin 4 → ℕ) (h : off = ![(slot t).val, 0, 0, 0]) (inb : ∀ a, off a + S1x2304x2x128.size a ≤ S2x2304x2x128.size a) (hr)
    (hq : S1x2304x2x128.Squeezes S2304x2x128)
    (off3 : Fin 3 → ℕ) (h3 : off3 = ![9 * k.val, 0, 0]) (inb3 : ∀ a, off3 a + S8x2x128.size a ≤ S2304x2x128.size a)
    (off2 : Fin 3 → ℕ) (h2 : off2 = ![8 * (gw (chan t k)).val, 0, 0]) (inb2 : ∀ a, off2 a + S8x2x128.size a ≤ S288x2x128.size a)
    (w : Vec F S8x2x128 .bf16) (hw : w = M7.view.readAt (Elt F) (Rect.unit (s := S288x2x128) off2 S8x2x128.size inb2).toLoadRect f7)
    (hF : Filled gw (M7.view.read (Elt F) f7) t k.val (M.view.read (Elt F) f)) :
    Filled gw (M7.view.read (Elt F) f7) t (k.val + 1) (M.view.read (Elt F) ((((M.slice (Rect.unit (s := S2x2304x2x128) off S1x2304x2x128.size inb) hr).squeeze S2304x2x128 hq).access
        (Rect.unit (s := S2304x2x128) off3 S8x2x128.size inb3)).write (Elt F) f w Finset.univ)) := by
  subst h3
  subst h2
  intro k' hk' j p l
  by_cases e : k' = k
  · subst e
    refine (read_own_hit M (slot t) off h inb hr hq (Rect.unit (s := S2304x2x128) ![9 * k'.val, 0, 0] S8x2x128.size inb3) f w (ix3 j p l) (rowE k' j) p l
      (Rect.emb_eq_of_coords _ _ _ fun a => by
        match a with
        | ⟨0, _⟩ => show 9 * k'.val + j.val = 9 * k'.val + 1 * j.val; omega
        | ⟨1, _⟩ => show p.val = 0 + 1 * p.val; omega
        | ⟨2, _⟩ => show l.val = 0 + 1 * l.val; omega)).trans ?_
    rw [hw, View.readAt_apply]
    congr 1
    funext a
    apply Fin.ext
    rw [LoadRect.idx_apply]
    match a with
    | ⟨0, _⟩ => show 8 * (gw (chan t k')).val + 1 * j.val = 8 * (gw (chan t k')).val + j.val; omega
    | ⟨1, _⟩ => show 0 + 1 * p.val = p.val; omega
    | ⟨2, _⟩ => show 0 + 1 * l.val = l.val; omega
  · have hne : k'.val ≠ k.val := fun h => e (Fin.ext h)
    refine (read_own_miss M (slot t) off h inb hr hq (Rect.unit (s := S2304x2x128) ![9 * k.val, 0, 0] S8x2x128.size inb3) f w Finset.univ (rowE k' j) p l
      (Rect.not_mem_set_of_axis _ _ (0 : Fin 3) (9 * k.val) 8 rfl rfl rfl (by show 9 * k'.val + j.val < _ ∨ _ ≤ 9 * k'.val + j.val; omega))).trans ?_
    exact hF k' (by omega) j p l

/-- A copy into the other slot leaves a filled slot filled. -/
theorem filled_other (gw : Fin 4608 → Fin 36) {x7 : S288x2x128.Idx → Elt F .bf16} (M : Memref sig .tc .vmem S2x2304x2x128 .bf16)
    (f : M.view.ty.Contents (Elt F)) (t : Fin 18) (n : ℕ) (s' : Fin 2) (hs : slot t ≠ s')
    (off : Fin 4 → ℕ) (h : off = ![s'.val, 0, 0, 0]) (inb : ∀ a, off a + S1x2304x2x128.size a ≤ S2x2304x2x128.size a) (hr)
    (hq : S1x2304x2x128.Squeezes S2304x2x128) (R : Rect S2304x2x128) (w : R.shape.Idx → Elt F .bf16) (Ms : Finset R.shape.Idx)
    (hF : Filled gw x7 t n (M.view.read (Elt F) f)) :
    Filled gw x7 t n (M.view.read (Elt F) ((((M.slice (Rect.unit (s := S2x2304x2x128) off S1x2304x2x128.size inb) hr).squeeze S2304x2x128 hq).access R).write (Elt F) f w Ms)) :=
  fun k hk j p l => (read_other_slot M (slot t) s' hs off h inb hr hq R f w Ms (rowE k j) p l).trans (hF k hk j p l)

end Cert.Proof.KernelIdeal

end
-- ==== Proof.KernelIdeal.Copy.lean ====
/-
  The two copying loops of `KernelIdeal` at their values: after every trip the slot holds one more channel's rows, the table's rows of
  that channel's group.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.KernelIdeal.Slot

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Mxu

variable {F : FTy → Type} [FloatOps F]

local notation "𝕄" => MT nD τ sig Unit (Elt F) ℕ (UR sig nD τ) ℕ

/-- A group in range places its eight rows at eight times itself. -/
theorem off2_eq (g : Fin 36) (w : BitVec 32) (h : w.toNat = g.val) : k0_off2 w = ![8 * g.val, 0, 0] := by
  obtain rfl : w = BitVec.ofNat 32 g.val := by rw [← h]; simp
  clear h
  revert g; decide +kernel

theorem off5_eq (g : Fin 36) (w : BitVec 32) (h : w.toNat = g.val) : k0_off5 w = ![8 * g.val, 0, 0] := by
  obtain rfl : w = BitVec.ofNat 32 g.val := by rw [← h]; simp
  clear h
  revert g; decide +kernel

/-- The word loaded for channel `k` of tile `t` is its group. -/
theorem word_eq (M1 : Memref sig .tc .smem S4608 .i32) (f1 : M1.view.ty.Contents (Elt F)) (x1 : Vec F S4608 .i32) (h1 : M1.view.read (Elt F) f1 = x1)
    (hx : Named x1) (t : Fin 18) (k : Fin 256) (off : Fin 1 → ℕ) (ho : off = ![256 * t.val + k.val]) (inb : ∀ a, off a + S1.size a ≤ S4608.size a) (x) :
    BitVec.toNat (w := 32) (M1.view.readAt (Elt F) (Rect.unit (s := S4608) off S1.size inb).toLoadRect f1 x) = (grp x1 hx (chan t k)).val := by
  subst ho
  rw [View.readAt_apply, h1]
  unfold grp
  congr 2
  funext a
  apply Fin.ext
  rw [LoadRect.idx_apply]
  match a with
  | ⟨0, _⟩ =>
    have h0 : (x 0).val < 1 := (x 0).isLt
    show 256 * t.val + k.val + 1 * (x 0).val = 256 * t.val + k.val
    omega

/-- The slot the tile after `t` is expanded into. -/
def next (t : Fin 18) : Fin 2 := ⟨(t.val + 1) % 2, by omega⟩

theorem next_ne (t : Fin 18) : slot t ≠ next t := fun h => by
  have := congrArg Fin.val h
  simp only [slot, next] at this
  omega

theorem slot_next (t t' : Fin 18) (h : t'.val = t.val + 1) : (slot t').val = (next t).val := by
  simp only [slot, next, h]

theorem off6_eq (t : Fin k0_t2_loop.trips) (h : k0_cond1 t = 1#1) : k0_off6 t = ![(next t).val, 0, 0, 0] := by
  revert t; decide +kernel

theorem off10_eq (t : Fin k0_t2_loop.trips) : k0_off10 t = ![(slot t).val, 0, 0, 0] := by
  revert t; decide +kernel

/-- What a copying loop keeps: the words and the table as they were, the expanded rows with `n` channels of tile `t` filled. -/
abbrev Copying (c : Dev nD) (arg1 : Memref sig .tc .smem S4608 .i32) (arg7 : Memref sig .tc .vmem S288x2x128 .bf16) (arg8 : Memref sig .tc .vmem S2x2304x2x128 .bf16)
    (f1 : Bf (F := F) c arg1) (f7 : Bf (F := F) c arg7) (P : Bf (F := F) c arg8 → Prop) : sProp 𝕄 :=
  iprop(held c arg1 f1 ∗ pt c arg7 f7 ∗ ∃ f8 : Bf (F := F) c arg8, pt c arg8 f8 ∗ ⌜P f8⌝)

set_option maxHeartbeats 4000000 in
/-- The first tile's rows, one trip a channel. -/
@[instance_reducible] def copy_t1 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S2304x1024 .i8) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2x2304x2x128 .bf16) (harg8 : arg8.IsWhole) (init : BitVec 32)

    (f1 : Bf (F := F) c arg1) (f7 : Bf (F := F) c arg7) (hx : Named (arg1.view.read (Elt F) f1)) :
    LoopInvTy_k0_t1 (F := F) Unit ℕ (UR sig nD τ) ℕ Variants.none c none Set.univ i arg1 harg1 arg2 harg2 arg3 harg3 arg4 harg4 arg5 harg5 arg6 harg6 arg7 harg7 arg8 harg8 init where
  inv k _ := Copying c arg1 arg7 arg8 f1 f7 fun f8 => Filled (grp (arg1.view.read (Elt F) f1) hx) (arg7.view.read (Elt F) f7) 0 k (arg8.view.read (Elt F) f8)
  step k acc := by
    unfold k0_t1_body
    have hw : InRange c arg1 f1 := fun r j => by rw [View.readAt_apply]; exact hx _
    iintro ⟨H1, H7, ⟨%f8, H8, %h8⟩⟩
    sl_exec (disch := exact chk1_of_lt _ (hw _ _))
    sl_step
    isplitl [H1]; · iexact H1
    isplitl [H7]; · iexact H7
    iexists _
    isplitl [H8]; · iexact H8
    · ipureintro
      have e := word_eq arg1 f1 _ rfl hx 0 k (k0_off1 k) ((k0_off1_eq k).trans (by simp)) (k0_off1_inb k)
      exact filled_step (grp (arg1.view.read (Elt F) f1) hx) arg7 arg8 f7 f8 0 k _ rfl _ _ _ _ (k0_off3_eq k) _ _ (off2_eq _ _ (e _)) _ _ (pay2_eq _) h8

/-- Where the next tile's copying starts: nothing of it is there yet. -/
theorem fill_start (gw : Fin 4608 → Fin 36) {x7 : S288x2x128.Idx → Elt F .bf16} {x8 : S2x2304x2x128.Idx → Elt F .bf16} (k : Fin 18) (h : Filled gw x7 k 256 x8) :
    Filled gw x7 k 256 x8 ∧ ∀ t : Fin 18, t.val = k.val + 1 → Filled gw x7 t 0 x8 :=
  ⟨h, fun _ _ _ h => (Nat.not_lt_zero _ h).elim⟩

set_option maxHeartbeats 4000000 in
/-- The next tile's rows, one trip a channel; the tile at hand stays filled. -/
@[sl_loop, instance_reducible] def copy_t3 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S2304x1024 .i8) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2x2304x2x128 .bf16) (harg8 : arg8.IsWhole) (c0_i32_16_r0 : BitVec 32) (c1_i32_17_r0 : BitVec 32) (k0_t2 : Fin k0_t2_loop.trips) (k0_h1 : k0_cond1 k0_t2 = 1#1) (init : BitVec 32)

    (f1 : Bf (F := F) c arg1) (f7 : Bf (F := F) c arg7) (hx : Named (arg1.view.read (Elt F) f1)) :
    LoopInvTy_k0_t3 (F := F) Unit ℕ (UR sig nD τ) ℕ Variants.none c none Set.univ i arg1 harg1 arg2 harg2 arg3 harg3 arg4 harg4 arg5 harg5 arg6 harg6 arg7 harg7 arg8 harg8 c0_i32_16_r0 c1_i32_17_r0 k0_t2 k0_h1 init where
  inv k _ := Copying c arg1 arg7 arg8 f1 f7 fun f8 => Filled (grp (arg1.view.read (Elt F) f1) hx) (arg7.view.read (Elt F) f7) k0_t2 256 (arg8.view.read (Elt F) f8)
    ∧ ∀ t : Fin 18, t.val = k0_t2.val + 1 → Filled (grp (arg1.view.read (Elt F) f1) hx) (arg7.view.read (Elt F) f7) t k (arg8.view.read (Elt F) f8)
  step k acc := by
    unfold k0_t3_body
    have hw : InRange c arg1 f1 := fun r j => by rw [View.readAt_apply]; exact hx _
    iintro ⟨H1, H7, ⟨%f8, H8, %h8⟩⟩
    sl_exec (disch := exact chk2_of_lt _ _ (hw _ _))
    sl_step
    isplitl [H1]; · iexact H1
    isplitl [H7]; · iexact H7
    iexists _
    isplitl [H8]; · iexact H8
    · ipureintro
      refine ⟨filled_other (grp (arg1.view.read (Elt F) f1) hx) arg8 f8 k0_t2 256 (next k0_t2) (next_ne k0_t2) _ (off6_eq k0_t2 k0_h1) _ _ _ _ _ _ h8.1, fun t ht => ?_⟩
      have e := word_eq arg1 f1 _ rfl hx t k (k0_off4 k0_t2 k) ((k0_off4_eq k0_t2 k).trans (by rw [ht]; congr 1; ring)) (k0_off4_inb k0_t2 k k0_h1)
      exact filled_step (grp (arg1.view.read (Elt F) f1) hx) arg7 arg8 f7 f8 t k _ ((off6_eq k0_t2 k0_h1).trans (by rw [slot_next k0_t2 t ht])) _ _ _ _ (k0_off7_eq k) _ _ (off5_eq _ _ (e _)) _ _ (pay8_eq _) (h8.2 t ht)

end Cert.Proof.KernelIdeal

end
-- ==== Proof.KernelIdeal.Tile.lean ====
/-
  One column tile's dequantized weights: what the body computes from 128 rows of packed bytes and four strided reads of the expanded
  rows, element by element.
-/
module

public import proofs.«01_k».proof.Proof.KernelIdeal.Slot

@[expose] public section

set_option maxRecDepth 16384

noncomputable section

namespace Cert.Proof.KernelIdeal

open Cert.KernelIdeal Cert.KernelIdeal.Gen
open Idealize.ShloMosaic Idealize.ShloMosaic.TcCoe

/-- The low (`p = 0`) or high nibble of a byte. -/
def nib (p : ℕ) (b : BitVec 8) : ℕ := if p = 0 then b.toNat % 16 else b.toNat / 16

/-- A nibble as an exact number. -/
def nibV (p : ℕ) (b : BitVec 8) : EReal := (((nib p b : ℕ) : ℝ) : EReal)

/-- A byte's nibbles as two half words in one word. -/
def spread (b : BitVec 8) : BitVec 32 :=
  IntOp.ori (IntOp.andi (b.setWidth 32) 15#32) (IntOp.shli .vector (IntOp.shrsi .vector (b.setWidth 32) 4#32) 16#32)

theorem spread_lo : ∀ b : BitVec 8, ((spread b).extractLsb' 0 16).toInt = (nib 0 b : ℤ) := by decide +kernel
theorem spread_hi : ∀ b : BitVec 8, ((spread b).extractLsb' 16 16).toInt = (nib 1 b : ℤ) := by decide +kernel

/-- The bytes' nibbles, low ones on even rows. -/
abbrev codes (b : Vec Ideal S128x256 .i8) : FVec Ideal S256x256 .bf16 := k0_pay10 b

theorem codes_apply (b : Vec Ideal S128x256 .i8) (r : Fin 256) (col : Fin 256) :
    codes b (ix2 r col) = nibV (r.val % 2) (b (ix2 ⟨r.val / 2, by omega⟩ col)) := by
  have h : codes b (ix2 r col) = (((bitcast S256x256 16 (fun i => spread (b i)) bitcasts_S128x256_w32_S256x256_w16 (ix2 r col)).toInt : ℝ) : EReal) := rfl
  rw [h, bitcast_32_16]
  have e : Shape.Bitcasts.srcIdx bitcasts_S128x256_w32_S256x256_w16 (ix2 r col) (S256x256.row (ix2 r col) / 2) (fun a ha => by
        have := bitcasts_S128x256_w32_S256x256_w16.pos_lt (ix2 r col) 0 (by decide) a ha; omega) = ix2 ⟨r.val / 2, by omega⟩ col := by
    funext a; apply Fin.ext
    match a with
    | ⟨0, _⟩ => rfl
    | ⟨1, _⟩ => rfl
  rw [e]
  have hr : S256x256.row (ix2 r col) = r.val := rfl
  rw [hr]
  unfold nibV
  rcases Nat.mod_two_eq_zero_or_one r.val with h0 | h0
  · rw [h0, spread_lo]; push_cast; rfl
  · rw [h0, spread_hi]; push_cast; rfl

/-- Half of a column tile: the codes less the zero points, times the scales, both read from two strided blocks of rows. -/
def half (o : Fin 2 → ℕ) (hs : S256x256.Slices o S256x128) (c : FVec Ideal S256x256 .bf16) (a b : Vec Ideal S128x2x128 .bf16) : FVec Ideal S256x128 .bf16 :=
  mulf (subf (extractStridedSlice S256x128 o c hs)
      (interleaveRows S256x128 (shapeCast S128x128 (rowsOfParity 0 S128x1x128 a bitcasts_S128x2x128_w16_S128x1x128_w32) shapeCasts_S128x1x128_S128x128)
        (shapeCast S128x128 (rowsOfParity 0 S128x1x128 b bitcasts_S128x2x128_w16_S128x1x128_w32) shapeCasts_S128x1x128_S128x128) bitcasts_S256x128_w16_S128x128_w32))
    (interleaveRows S256x128 (shapeCast S128x128 (rowsOfParity 1 S128x1x128 a bitcasts_S128x2x128_w16_S128x1x128_w32) shapeCasts_S128x1x128_S128x128)
        (shapeCast S128x128 (rowsOfParity 1 S128x1x128 b bitcasts_S128x2x128_w16_S128x1x128_w32) shapeCasts_S128x1x128_S128x128) bitcasts_S256x128_w16_S128x128_w32)

/-- A column tile's weights. -/
def tile (w : Vec Ideal S128x256 .i8) (a b a' b' : Vec Ideal S128x2x128 .bf16) : FVec Ideal S256x256 .bf16 :=
  concatenate S256x256 1 [⟨S256x128, half ![0, 0] slices_S256x256_o0_0_S256x128 (codes w) a b⟩, ⟨S256x128, half ![0, 128] slices_S256x256_o0_128_S256x128 (codes w) a' b'⟩]
    concatenates_S256x128_S256x128_S256x256_d1

theorem tile0_eq (w a b a' b') : k0_pay16 (F := Ideal) (k0_pay13 (k0_pay10 w) (k0_pay11 a) (k0_pay12 a) b) (k0_pay14 a' b') (k0_pay15 (k0_pay10 w) a' b') = tile w a b a' b' := rfl
theorem tile1_eq (w a b a' b') : k0_pay22 (F := Ideal) (k0_pay17 w) (k0_pay18 a) (k0_pay19 b) (k0_pay20 b) (k0_pay21 a) a' b' = tile w a b a' b' := rfl
theorem tile2_eq (w a b a' b') : k0_pay27 (F := Ideal) (k0_pay23 w) (k0_pay24 a b) (k0_pay25 a b) (k0_pay26 w) a' b' = tile w a b a' b' := rfl
theorem tile3_eq (w a b a' b') : k0_pay3 (F := Ideal) (k0_pay28 w) (k0_pay29 w a b) (k0_pay30 a') (k0_pay31 a') b' = tile w a b a' b' := rfl

/-- Half a tile at an element: even rows read the first block, odd rows the second. -/
theorem half_apply (o : ℕ) (ho : o + 128 ≤ 256) (hs) (c : FVec Ideal S256x256 .bf16) (a b : Vec Ideal S128x2x128 .bf16) (r : Fin 256) (l : Fin 128) :
    half ![0, o] hs c a b (ix2 r l) = (c (ix2 r ⟨o + l.val, by omega⟩) - (if r.val % 2 = 0 then a else b) (ix3 ⟨r.val / 2, by omega⟩ 0 l))
      * (if r.val % 2 = 0 then a else b) (ix3 ⟨r.val / 2, by omega⟩ 1 l) := by
  pointwise [half]
  split_ifs <;> rfl

theorem tile_apply (w : Vec Ideal S128x256 .i8) (a b a' b' : Vec Ideal S128x2x128 .bf16) (r : Fin 256) (h : Fin 2) (l : Fin 128) (V : Vec Ideal S128x2x128 .bf16)
    (hV : V = if h.val = 0 then (if r.val % 2 = 0 then a else b) else (if r.val % 2 = 0 then a' else b')) :
    tile w a b a' b' (ix2 r ⟨128 * h.val + l.val, by omega⟩)
      = (nibV (r.val % 2) (w (ix2 ⟨r.val / 2, by omega⟩ ⟨128 * h.val + l.val, by omega⟩)) - V (ix3 ⟨r.val / 2, by omega⟩ 0 l)) * V (ix3 ⟨r.val / 2, by omega⟩ 1 l) := by
  subst hV
  rw [← codes_apply]
  fin_cases h
  · pointwise [tile]
    have e := half_apply 0 (by omega) slices_S256x256_o0_0_S256x128 (codes w) a b r l
    simp only [Nat.zero_add] at e
    exact e
  · pointwise [tile]
    exact half_apply 128 (by omega) slices_S256x256_o0_128_S256x128 (codes w) a' b' r l

/-! ## The weights of a tile from what the buffers hold -/

/-- Group `g`'s zero point in column `col`: the low nibbles hold the first eighteen groups', the high ones the others'. -/
def zeroV (x5 : Vec Ideal S18x1024 .i8) (g : Fin 36) (col : Fin 1024) : EReal :=
  nibV (g.val / 18) (x5 (ix2 ⟨g.val % 18, by omega⟩ col))

/-- Channel `ch`'s weight in column `col`. -/
def wgt (x1 : Vec Ideal S4608 .i32) (hx : Named x1) (x3 : Vec Ideal S2304x1024 .i8) (x4 : Vec Ideal S36x1024 .bf16) (x5 : Vec Ideal S18x1024 .i8)
    (ch : Fin 4608) (col : Fin 1024) : EReal :=
  (nibV (ch.val % 2) (x3 (ix2 ⟨ch.val / 2, by omega⟩ col)) - zeroV x5 (grp x1 hx ch) col) * x4 (ix2 (grp x1 hx ch) col)

/-- The table holds, for every group and every block of 128 columns, the zero points' row and the scales' row. -/
def IsTable (x4 : Vec Ideal S36x1024 .bf16) (x5 : Vec Ideal S18x1024 .i8) (x7 : Vec Ideal S288x2x128 .bf16) : Prop :=
  ∀ (g : Fin 36) (j : Fin 8) (l : Fin 128),
    x7 (ix3 (rowT g j) 0 l) = zeroV x5 g ⟨128 * j.val + l.val, by omega⟩ ∧ x7 (ix3 (rowT g j) 1 l) = x4 (ix2 g ⟨128 * j.val + l.val, by omega⟩)

/-- A strided read of a filled slot: every other channel's row of one column block. -/
theorem strided_apply {α : EltTy → Type} (gw : Fin 4608 → Fin 36) (x7 : S288x2x128.Idx → α .bf16) (M : Memref sig .tc .vmem S2x2304x2x128 .bf16)
    (f : M.view.ty.Contents α) (t : Fin 18) (hF : Filled gw x7 t 256 (M.view.read α f))
    (off : Fin 4 → ℕ) (h : off = ![(slot t).val, 0, 0, 0]) (inb : ∀ a, off a + S1x2304x2x128.size a ≤ S2x2304x2x128.size a) (hr)
    (hq : S1x2304x2x128.Squeezes S2304x2x128) (s : ℕ) (inb') (q : Fin 2) (j : Fin 8) (hs : s = 9 * q.val + j.val) (i : Fin 128) (p : Fin 2) (l : Fin 128) :
    ((M.slice (Rect.unit (s := S2x2304x2x128) off S1x2304x2x128.size inb) hr).squeeze S2304x2x128 hq).view.readAt α
        (⟨![s, 0, 0], S128x2x128.size, ![18, 1, 1], inb'⟩ : LoadRect S2304x2x128) f (ix3 i p l)
      = x7 (ix3 (rowT (gw (chan t ⟨2 * i.val + q.val, by omega⟩)) j) p l) := by
  rw [← hF ⟨2 * i.val + q.val, by omega⟩ (by show 2 * i.val + q.val < 256; omega) j p l, ← read_slot M (slot t) off h inb hr hq, View.readAt_apply]
  congr 1
  funext a
  apply Fin.ext
  rw [LoadRect.idx_apply]
  match a with
  | ⟨0, _⟩ => show s + 18 * i.val = 9 * (2 * i.val + q.val) + j.val; omega
  | ⟨1, _⟩ => show 0 + 1 * p.val = p.val; omega
  | ⟨2, _⟩ => show 0 + 1 * l.val = l.val; omega

/-- Column tile `n` of channel tile `t`, computed from the bytes and the filled slot, holds the channels' weights. -/
theorem tile_weight (x1 : Vec Ideal S4608 .i32) (hx : Named x1) (x4 : Vec Ideal S36x1024 .bf16) (x5 : Vec Ideal S18x1024 .i8)
    (x7 : Vec Ideal S288x2x128 .bf16) (hT : IsTable x4 x5 x7) (M3 : Memref sig .tc .vmem S2304x1024 .i8) (f3 : M3.view.ty.Contents (Elt Ideal))
    (M : Memref sig .tc .vmem S2x2304x2x128 .bf16) (f : M.view.ty.Contents (Elt Ideal)) (t : Fin 18)
    (hF : Filled (grp x1 hx) x7 t 256 (M.view.read (Elt Ideal) f))
    (off : Fin 4 → ℕ) (h : off = ![(slot t).val, 0, 0, 0]) (inb : ∀ a, off a + S1x2304x2x128.size a ≤ S2x2304x2x128.size a) (hr)
    (hq : S1x2304x2x128.Squeezes S2304x2x128) (n : Fin 4)
    (off3 : Fin 2 → ℕ) (h3 : off3 = ![128 * t.val, 256 * n.val]) (inb3 : ∀ a, off3 a + S128x256.size a ≤ S2304x1024.size a)
    (s₀ s₁ s₂ s₃ : ℕ) (i₀ i₁ i₂ i₃) (e₀ : s₀ = 2 * n.val) (e₁ : s₁ = 9 + 2 * n.val) (e₂ : s₂ = 2 * n.val + 1) (e₃ : s₃ = 10 + 2 * n.val)
    (r col : Fin 256) :
    tile (M3.view.readAt (Elt Ideal) (Rect.unit (s := S2304x1024) off3 S128x256.size inb3).toLoadRect f3)
        (((M.slice (Rect.unit (s := S2x2304x2x128) off S1x2304x2x128.size inb) hr).squeeze S2304x2x128 hq).view.readAt (Elt Ideal) (⟨![s₀, 0, 0], S128x2x128.size, ![18, 1, 1], i₀⟩ : LoadRect S2304x2x128) f)
        (((M.slice (Rect.unit (s := S2x2304x2x128) off S1x2304x2x128.size inb) hr).squeeze S2304x2x128 hq).view.readAt (Elt Ideal) (⟨![s₁, 0, 0], S128x2x128.size, ![18, 1, 1], i₁⟩ : LoadRect S2304x2x128) f)
        (((M.slice (Rect.unit (s := S2x2304x2x128) off S1x2304x2x128.size inb) hr).squeeze S2304x2x128 hq).view.readAt (Elt Ideal) (⟨![s₂, 0, 0], S128x2x128.size, ![18, 1, 1], i₂⟩ : LoadRect S2304x2x128) f)
        (((M.slice (Rect.unit (s := S2x2304x2x128) off S1x2304x2x128.size inb) hr).squeeze S2304x2x128 hq).view.readAt (Elt Ideal) (⟨![s₃, 0, 0], S128x2x128.size, ![18, 1, 1], i₃⟩ : LoadRect S2304x2x128) f)
        (ix2 r col)
      = wgt x1 hx (M3.view.read (Elt Ideal) f3) x4 x5 (chan t r) ⟨256 * n.val + col.val, by omega⟩ := by
  subst h3
  obtain ⟨hh, l, rfl⟩ : ∃ (hh : Fin 2) (l : Fin 128), col = ⟨128 * hh.val + l.val, by omega⟩ :=
    ⟨⟨col.val / 128, by omega⟩, ⟨col.val % 128, by omega⟩, Fin.ext (by show col.val = 128 * (col.val / 128) + col.val % 128; omega)⟩
  rw [tile_apply _ _ _ _ _ r hh l _ rfl]
  have hb : M3.view.readAt (Elt Ideal) (Rect.unit (s := S2304x1024) ![128 * t.val, 256 * n.val] S128x256.size inb3).toLoadRect f3 (ix2 ⟨r.val / 2, by omega⟩ ⟨128 * hh.val + l.val, by omega⟩)
      = M3.view.read (Elt Ideal) f3 (ix2 ⟨(chan t r).val / 2, by omega⟩ ⟨256 * n.val + (128 * hh.val + l.val), by omega⟩) := by
    rw [View.readAt_apply]
    congr 1
    funext a
    apply Fin.ext
    rw [LoadRect.idx_apply]
    match a with
    | ⟨0, _⟩ => show 128 * t.val + 1 * (r.val / 2) = (256 * t.val + r.val) / 2; omega
    | ⟨1, _⟩ => show 256 * n.val + 1 * (128 * hh.val + l.val) = 256 * n.val + (128 * hh.val + l.val); omega
  have hc : (chan t r).val % 2 = r.val % 2 := by show (256 * t.val + r.val) % 2 = _; omega
  have key : ∀ (j : Fin 8), j.val = 2 * n.val + hh.val → ∀ p : Fin 2,
      (if hh.val = 0 then (if r.val % 2 = 0 then
          (((M.slice (Rect.unit (s := S2x2304x2x128) off S1x2304x2x128.size inb) hr).squeeze S2304x2x128 hq).view.readAt (Elt Ideal) (⟨![s₀, 0, 0], S128x2x128.size, ![18, 1, 1], i₀⟩ : LoadRect S2304x2x128) f)
        else (((M.slice (Rect.unit (s := S2x2304x2x128) off S1x2304x2x128.size inb) hr).squeeze S2304x2x128 hq).view.readAt (Elt Ideal) (⟨![s₁, 0, 0], S128x2x128.size, ![18, 1, 1], i₁⟩ : LoadRect S2304x2x128) f))
       else (if r.val % 2 = 0 then
          (((M.slice (Rect.unit (s := S2x2304x2x128) off S1x2304x2x128.size inb) hr).squeeze S2304x2x128 hq).view.readAt (Elt Ideal) (⟨![s₂, 0, 0], S128x2x128.size, ![18, 1, 1], i₂⟩ : LoadRect S2304x2x128) f)
        else (((M.slice (Rect.unit (s := S2x2304x2x128) off S1x2304x2x128.size inb) hr).squeeze S2304x2x128 hq).view.readAt (Elt Ideal) (⟨![s₃, 0, 0], S128x2x128.size, ![18, 1, 1], i₃⟩ : LoadRect S2304x2x128) f)))
        (ix3 ⟨r.val / 2, by omega⟩ p l) = x7 (ix3 (rowT (grp x1 hx (chan t r)) j) p l) := by
    intro j hj p
    have hlt := hh.isLt
    have ev : ∀ q : Fin 2, r.val % 2 = q.val → (⟨2 * (r.val / 2) + q.val, by omega⟩ : Fin 256) = r := fun q e => Fin.ext (by show 2 * (r.val / 2) + q.val = r.val; omega)
    split_ifs with h0 h1 h1
    · rw [strided_apply (grp x1 hx) x7 M f t hF off h inb hr hq s₀ i₀ 0 j (by rw [e₀, hj, h0]; show _ = 9 * 0 + _; omega), ev 0 h1]
    · rw [strided_apply (grp x1 hx) x7 M f t hF off h inb hr hq s₁ i₁ 1 j (by rw [e₁, hj, h0]; show _ = 9 * 1 + _; omega), ev 1 (by show _ = 1; omega)]
    · rw [strided_apply (grp x1 hx) x7 M f t hF off h inb hr hq s₂ i₂ 0 j (by rw [e₂, hj]; show _ = 9 * 0 + _; omega), ev 0 h1]
    · rw [strided_apply (grp x1 hx) x7 M f t hF off h inb hr hq s₃ i₃ 1 j (by rw [e₃, hj]; show _ = 9 * 1 + _; omega), ev 1 (by show _ = 1; omega)]
  have hj : (⟨2 * n.val + hh.val, by omega⟩ : Fin 8).val = 2 * n.val + hh.val := rfl
  rw [key _ hj 0, key _ hj 1, hb, (hT _ _ l).1, (hT _ _ l).2]
  unfold wgt
  have ec : (⟨128 * (2 * n.val + hh.val) + l.val, by omega⟩ : Fin 1024) = ⟨256 * n.val + (128 * hh.val + l.val), by omega⟩ := Fin.ext (by show 128 * (2 * n.val + hh.val) + l.val = 256 * n.val + (128 * hh.val + l.val); omega)
  rw [hc]
  simp only [ec]

end Cert.Proof.KernelIdeal

end
-- ==== Proof.KernelIdeal.Sums.lean ====
/-
  The matrix unit's four accumulators, one per column tile, as sums over the channel tiles pushed so far.
-/
module

public import proofs.«01_k».proof.Proof.Unit
public import Idealize.ShloMosaic.Lib.MatmulPlain
public import Idealize.ShloMosaic.Lib.Pointwise

@[expose] public section

namespace Cert.Proof

open Idealize.ShloMosaic Mxu
open scoped BigOperators

/-- The rows at `A` of unit `q` after `n` tiles: not live before the first, afterwards the sum of the tiles' terms `P`. -/
structure Acc (s : Mxu Ideal) (q : Fin 2) (A : ℕ) (h : Fits A 256) (n : ℕ) (P : ℕ → Fin 256 → Fin 256 → EReal) : Prop where
  dead : n = 0 → ∀ r : Fin 256, s.live q (row h r) = false
  live : n ≠ 0 → ∀ r : Fin 256, s.live q (row h r) = true
  read : n ≠ 0 → ∀ r c : Fin 256, s.read q A h (ix2 r c) = ∑ t ∈ Finset.range n, P t r c

theorem acc_init (q : Fin 2) (A : ℕ) (h : Fits A 256) (P : ℕ → Fin 256 → Fin 256 → EReal) : Acc Mxu.init q A h 0 P :=
  ⟨fun _ _ => rfl, fun e => absurd rfl e, fun e => absurd rfl e⟩

/-- The two spellings of a two-coordinate index agree. -/
theorem ix2_spelled {m n : ℕ} (r : Fin m) (c : Fin n) : ValueIdx.ix2 r c = ix2 r c := by
  funext a
  match a with
  | ⟨0, _⟩ => rfl
  | ⟨1, _⟩ => rfl

/-- A pass at an element is the exact product there. -/
theorem pass_apply (v x : FVec Ideal (STile 256) .bf16) (r c : Fin 256) :
    FloatOps.mxuPass (F := Ideal) (DotDims.plain 256 256 256) x v (ix2 r c) = ∑ k : Fin 256, x (ix2 r k) * v (ix2 k c) := by
  have h := Ideal.matmul_plain_apply none x v (fun _ => 0) r c
  simp only [zero_add, ix2_spelled] at h
  rw [← h, Ideal.matmul_apply, zero_add]
  rfl

/-- One more tile pushed and accumulated there. -/
theorem Acc.push {s : Mxu Ideal} {q : Fin 2} {A : ℕ} {h : Fits A 256} {n : ℕ} {P : ℕ → Fin 256 → Fin 256 → EReal} (hA : Acc s q A h n P)
    (r : Fin 2) (hreg : s.reg q r = none) (v x : FVec Ideal (STile 256) .bf16) (hP : ∀ i c, ∑ k : Fin 256, x (ix2 i k) * v (ix2 k c) = P n i c) :
    Acc ((s.pushed q r false v).accLhs q r A x h) q A h (n + 1) P := by
  refine ⟨fun e => absurd e (by omega), fun _ i => live_accLhs_row _ _ _ _ _ _ _, fun _ i c => ?_⟩
  by_cases hn : n = 0
  · subst hn
    have e := read_pushAcc_of_not_live q r false A h s v x hreg (hA.dead rfl)
    unfold Mxu.pushAcc at e
    rw [e, show passOf (F := Ideal) false (v, x) = FloatOps.mxuPass (DotDims.plain 256 256 256) x v from rfl, pass_apply, hP]
    simp
  · have e := read_pushAcc_of_live q r false A h s v x hreg (hA.live hn)
    unfold Mxu.pushAcc at e
    rw [e, show passOf (F := Ideal) false (v, x) = FloatOps.mxuPass (DotDims.plain 256 256 256) x v from rfl, Finset.sum_range_succ, ← hA.read hn, ← hP, ← pass_apply]
    rfl

/-- A tile accumulated elsewhere leaves these rows alone. -/
theorem Acc.other {s : Mxu Ideal} {q : Fin 2} {A : ℕ} {h : Fits A 256} {n : ℕ} {P : ℕ → Fin 256 → Fin 256 → EReal} (hA : Acc s q A h n P)
    (q' r : Fin 2) (A' : ℕ) (h' : Fits A' 256) (v x : FVec Ideal (STile 256) .bf16) (hne : q ≠ q' ∨ 4 * A + 256 ≤ 4 * A' ∨ 4 * A' + 256 ≤ 4 * A) :
    Acc ((s.pushed q' r false v).accLhs q' r A' x h') q A h n P := by
  have hl : ∀ i : Fin 256, ((s.pushed q' r false v).accLhs q' r A' x h').live q (row h i) = s.live q (row h i) := fun i => by
    rw [live_accLhs, if_neg, live_pushed]
    rintro ⟨rfl, h1, h2⟩
    have hi := i.isLt
    have e : (row h i).val = 4 * A + i.val := rfl
    rcases hne with h0 | h0 | h0
    · exact h0 rfl
    · omega
    · omega
  refine ⟨fun e i => (hl i).trans (hA.dead e i), fun e i => (hl i).trans (hA.live e i), fun e i c => ?_⟩
  rw [read_accLhs_ne _ _ _ _ _ _ _ _ _ hne, read_pushed, hA.read e]

/-- The four column tiles' accumulators after `n` channel tiles. -/
structure Sums (s : Mxu Ideal) (n : ℕ) (P : Fin 4 → ℕ → Fin 256 → Fin 256 → EReal) : Prop where
  rest : Resting s
  a0 : ∀ h, Acc s 0 0 h n (P 0)
  a1 : ∀ h, Acc s 1 0 h n (P 1)
  a2 : ∀ h, Acc s 0 64 h n (P 2)
  a3 : ∀ h, Acc s 1 64 h n (P 3)

theorem sums_init (P : Fin 4 → ℕ → Fin 256 → Fin 256 → EReal) : Sums Mxu.init 0 P :=
  ⟨resting_init, fun _ => acc_init _ _ _ _, fun _ => acc_init _ _ _ _, fun _ => acc_init _ _ _ _, fun _ => acc_init _ _ _ _⟩

/-- One more channel tile: its four column tiles pushed, each into its own rows. -/
theorem Sums.step {s : Mxu Ideal} {n : ℕ} {P : Fin 4 → ℕ → Fin 256 → Fin 256 → EReal} (hS : Sums s n P) (h0 : Fits 0 256) (h64 : Fits 64 256)
    (v0 v1 v2 v3 x : FVec Ideal (STile 256) .bf16)
    (p0 : ∀ i c, ∑ k : Fin 256, x (ix2 i k) * v0 (ix2 k c) = P 0 n i c) (p1 : ∀ i c, ∑ k : Fin 256, x (ix2 i k) * v1 (ix2 k c) = P 1 n i c)
    (p2 : ∀ i c, ∑ k : Fin 256, x (ix2 i k) * v2 (ix2 k c) = P 2 n i c) (p3 : ∀ i c, ∑ k : Fin 256, x (ix2 i k) * v3 (ix2 k c) = P 3 n i c) :
    Sums ((((((((s.pushed 0 0 false v0).accLhs 0 0 0 x h0).pushed 1 0 false v1).accLhs 1 0 0 x h0).pushed 0 1 false v2).accLhs 0 1 64 x h64).pushed 1 1 false v3).accLhs 1 1 64 x h64)
      (n + 1) P := by
  have r0 := hS.rest
  have r1 := r0.pushAcc 0 0 0 (by decide) h0 v0 x
  have r2 := r1.pushAcc 1 0 0 (by decide) h0 v1 x
  have r3 := r2.pushAcc 0 1 64 (by decide) h64 v2 x
  have r4 := r3.pushAcc 1 1 64 (by decide) h64 v3 x
  refine ⟨r4, fun h => ?_, fun h => ?_, fun h => ?_, fun h => ?_⟩
  · exact ((((hS.a0 h0).push 0 (r0.reg _ _) v0 x p0).other 1 0 0 h0 v1 x (by decide)).other 0 1 64 h64 v2 x (by decide)).other 1 1 64 h64 v3 x (by decide)
  · exact ((((hS.a1 h0).other 0 0 0 h0 v0 x (by decide)).push 0 (r1.reg _ _) v1 x p1).other 0 1 64 h64 v2 x (by decide)).other 1 1 64 h64 v3 x (by decide)
  · exact ((((hS.a2 h64).other 0 0 0 h0 v0 x (by decide)).other 1 0 0 h0 v1 x (by decide)).push 1 (r2.reg _ _) v2 x p2).other 1 1 64 h64 v3 x (by decide)
  · exact ((((hS.a3 h64).other 0 0 0 h0 v0 x (by decide)).other 1 0 0 h0 v1 x (by decide)).other 0 1 64 h64 v2 x (by decide)).push 1 (r3.reg _ _) v3 x p3

end Cert.Proof
-- ==== Proof.KernelIdeal.Tiles.lean ====
/-
  The loop over the channel tiles at its values: after each trip every accumulator holds the sum over the tiles so far of the
  activations times the dequantized weights.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.KernelIdeal.Copy
public import proofs.«01_k».proof.Proof.KernelIdeal.Tile
public import proofs.«01_k».proof.Proof.KernelIdeal.Sums

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Mxu

local notation "𝕄" => MT nD τ sig Unit (Elt Ideal) ℕ (UR sig nD τ) ℕ

open scoped BigOperators

/-- Tile `t`'s part of the product at row `i`, column `c` of column tile `n`. -/
def part (x1 : Vec Ideal S4608 .i32) (hx : Named x1) (x2 : Vec Ideal S256x4608 .bf16) (x3 : Vec Ideal S2304x1024 .i8) (x4 : Vec Ideal S36x1024 .bf16)
    (x5 : Vec Ideal S18x1024 .i8) (n : Fin 4) (t : ℕ) (i c : Fin 256) : EReal :=
  if h : t < 18 then ∑ k : Fin 256, x2 (ix2 i (chan ⟨t, h⟩ k)) * wgt x1 hx x3 x4 x5 (chan ⟨t, h⟩ k) ⟨256 * n.val + c.val, by omega⟩ else 0

/-- The activations' tile, read at a place. -/
theorem xtile_apply (M : Memref sig .tc .vmem S256x4608 .bf16) (f : M.view.ty.Contents (Elt Ideal)) (t : Fin 18)
    (off : Fin 2 → ℕ) (h : off = ![0, 256 * t.val]) (inb : ∀ a, off a + S256x256.size a ≤ S256x4608.size a) (i k : Fin 256) :
    k0_pay9 (F := Ideal) (M.view.readAt (Elt Ideal) (Rect.unit (s := S256x4608) off S256x256.size inb).toLoadRect f) (ix2 i k)
      = M.view.read (Elt Ideal) f (ix2 i (chan t k)) := by
  subst h
  unfold k0_pay9
  simp only [shapeCast_self]
  rw [View.readAt_apply]
  congr 1
  funext a
  apply Fin.ext
  rw [LoadRect.idx_apply]
  match a with
  | ⟨0, _⟩ => show 0 + 1 * i.val = i.val; omega
  | ⟨1, _⟩ => show 256 * t.val + 1 * k.val = 256 * t.val + k.val; omega

/-- A tile's left operand against its weights, summed, is the tile's part. -/
theorem part_eq (x1 : Vec Ideal S4608 .i32) (hx : Named x1) (x2 : Vec Ideal S256x4608 .bf16) (x3 : Vec Ideal S2304x1024 .i8) (x4 : Vec Ideal S36x1024 .bf16)
    (x5 : Vec Ideal S18x1024 .i8) (n : Fin 4) (t : Fin 18) (x v : FVec Ideal S256x256 .bf16) (hxk : ∀ i k : Fin 256, x (ix2 i k) = x2 (ix2 i (chan t k)))
    (hv : ∀ k c : Fin 256, v (ix2 k c) = wgt x1 hx x3 x4 x5 (chan t k) ⟨256 * n.val + c.val, by omega⟩) (i c : Fin 256) :
    ∑ k : Fin 256, x (ix2 i k) * v (ix2 k c) = part x1 hx x2 x3 x4 x5 n t.val i c := by
  unfold part
  rw [dif_pos t.isLt]
  exact Finset.sum_congr rfl fun k _ => by rw [hxk, hv]

/-- The slot channel tile `k` reads. -/
abbrev slotRef (M : Memref sig .tc .vmem S2x2304x2x128 .bf16) (k : Fin k0_t2_loop.trips) : Memref sig .tc .vmem S2304x2x128 .bf16 :=
  (M.slice (Rect.unit (s := S2x2304x2x128) (k0_off10 k) S1x2304x2x128.size (k0_off10_inb k)) (fun _ => rfl)).squeeze S2304x2x128 squeezes_S1x2304x2x128_S2304x2x128

/-- One channel tile's four products pushed and accumulated. -/
theorem trip_sums (x1 : Vec Ideal S4608 .i32) (hx : Named x1) (x4 : Vec Ideal S36x1024 .bf16) (x5 : Vec Ideal S18x1024 .i8)
    (x7 : Vec Ideal S288x2x128 .bf16) (hT : IsTable x4 x5 x7) (M2 : Memref sig .tc .vmem S256x4608 .bf16) (f2 : M2.view.ty.Contents (Elt Ideal))
    (M3 : Memref sig .tc .vmem S2304x1024 .i8) (f3 : M3.view.ty.Contents (Elt Ideal))
    (M : Memref sig .tc .vmem S2x2304x2x128 .bf16) (f : M.view.ty.Contents (Elt Ideal)) (k : Fin 18)
    (hF : Filled (grp x1 hx) x7 k 256 (M.view.read (Elt Ideal) f)) (s : Mxu Ideal)
    (hS : Sums s k.val (part x1 hx (M2.view.read (Elt Ideal) f2) (M3.view.read (Elt Ideal) f3) x4 x5))
    (i0 i9 i1 i10 i2 i11 i3 i12 i4 i13 i5 i14 i6 i15 i7 i16) (x v0 v1 v2 v3 : FVec Ideal S256x256 .bf16)
    (ex : x = k0_pay9 (F := Ideal) (M2.view.readAt (Elt Ideal) (Rect.unit (s := S256x4608) (k0_off8 k) S256x256.size (k0_off8_inb k)).toLoadRect f2))
    (e0 : v0 = tile (M3.view.readAt (Elt Ideal) (Rect.unit (s := S2304x1024) (k0_off9 k) S128x256.size (k0_off9_inb k)).toLoadRect f3)
      ((slotRef M k).view.readAt (Elt Ideal) (⟨![0, 0, 0], S128x2x128.size, ![18, 1, 1], i0⟩ : LoadRect S2304x2x128) f)
      ((slotRef M k).view.readAt (Elt Ideal) (⟨![9, 0, 0], S128x2x128.size, ![18, 1, 1], i9⟩ : LoadRect S2304x2x128) f)
      ((slotRef M k).view.readAt (Elt Ideal) (⟨![1, 0, 0], S128x2x128.size, ![18, 1, 1], i1⟩ : LoadRect S2304x2x128) f)
      ((slotRef M k).view.readAt (Elt Ideal) (⟨![10, 0, 0], S128x2x128.size, ![18, 1, 1], i10⟩ : LoadRect S2304x2x128) f))
    (e1 : v1 = tile (M3.view.readAt (Elt Ideal) (Rect.unit (s := S2304x1024) (k0_off11 k) S128x256.size (k0_off11_inb k)).toLoadRect f3)
      ((slotRef M k).view.readAt (Elt Ideal) (⟨![2, 0, 0], S128x2x128.size, ![18, 1, 1], i2⟩ : LoadRect S2304x2x128) f)
      ((slotRef M k).view.readAt (Elt Ideal) (⟨![11, 0, 0], S128x2x128.size, ![18, 1, 1], i11⟩ : LoadRect S2304x2x128) f)
      ((slotRef M k).view.readAt (Elt Ideal) (⟨![3, 0, 0], S128x2x128.size, ![18, 1, 1], i3⟩ : LoadRect S2304x2x128) f)
      ((slotRef M k).view.readAt (Elt Ideal) (⟨![12, 0, 0], S128x2x128.size, ![18, 1, 1], i12⟩ : LoadRect S2304x2x128) f))
    (e2 : v2 = tile (M3.view.readAt (Elt Ideal) (Rect.unit (s := S2304x1024) (k0_off12 k) S128x256.size (k0_off12_inb k)).toLoadRect f3)
      ((slotRef M k).view.readAt (Elt Ideal) (⟨![4, 0, 0], S128x2x128.size, ![18, 1, 1], i4⟩ : LoadRect S2304x2x128) f)
      ((slotRef M k).view.readAt (Elt Ideal) (⟨![13, 0, 0], S128x2x128.size, ![18, 1, 1], i13⟩ : LoadRect S2304x2x128) f)
      ((slotRef M k).view.readAt (Elt Ideal) (⟨![5, 0, 0], S128x2x128.size, ![18, 1, 1], i5⟩ : LoadRect S2304x2x128) f)
      ((slotRef M k).view.readAt (Elt Ideal) (⟨![14, 0, 0], S128x2x128.size, ![18, 1, 1], i14⟩ : LoadRect S2304x2x128) f))
    (e3 : v3 = tile (M3.view.readAt (Elt Ideal) (Rect.unit (s := S2304x1024) (k0_off13 k) S128x256.size (k0_off13_inb k)).toLoadRect f3)
      ((slotRef M k).view.readAt (Elt Ideal) (⟨![6, 0, 0], S128x2x128.size, ![18, 1, 1], i6⟩ : LoadRect S2304x2x128) f)
      ((slotRef M k).view.readAt (Elt Ideal) (⟨![15, 0, 0], S128x2x128.size, ![18, 1, 1], i15⟩ : LoadRect S2304x2x128) f)
      ((slotRef M k).view.readAt (Elt Ideal) (⟨![7, 0, 0], S128x2x128.size, ![18, 1, 1], i7⟩ : LoadRect S2304x2x128) f)
      ((slotRef M k).view.readAt (Elt Ideal) (⟨![16, 0, 0], S128x2x128.size, ![18, 1, 1], i16⟩ : LoadRect S2304x2x128) f)) :
    Sums ((((((((s.pushed 0 0 false v0).accLhs 0 0 0 x fits_0_256).pushed 1 0 false v1).accLhs 1 0 0 x fits_0_256).pushed 0 1 false v2).accLhs 0 1 64 x fits_64_256).pushed 1 1 false v3).accLhs 1 1 64 x fits_64_256)
      (k.val + 1) (part x1 hx (M2.view.read (Elt Ideal) f2) (M3.view.read (Elt Ideal) f3) x4 x5) := by
  have hxk : ∀ i j : Fin 256, x (ix2 i j) = M2.view.read (Elt Ideal) f2 (ix2 i (chan k j)) := fun i j => by
    rw [ex]; exact xtile_apply M2 f2 k _ (k0_off8_eq k) _ i j
  refine hS.step fits_0_256 fits_64_256 v0 v1 v2 v3 x ?_ ?_ ?_ ?_
  · exact part_eq x1 hx _ _ x4 x5 0 k x v0 hxk fun r col => by
      rw [e0]; exact tile_weight x1 hx x4 x5 x7 hT M3 f3 M f k hF _ (off10_eq k) _ _ _ 0 _ (k0_off9_eq k) _ 0 9 1 10 _ _ _ _ rfl rfl rfl rfl r col
  · exact part_eq x1 hx _ _ x4 x5 1 k x v1 hxk fun r col => by
      rw [e1]; exact tile_weight x1 hx x4 x5 x7 hT M3 f3 M f k hF _ (off10_eq k) _ _ _ 1 _ (k0_off11_eq k) _ 2 11 3 12 _ _ _ _ rfl rfl rfl rfl r col
  · exact part_eq x1 hx _ _ x4 x5 2 k x v2 hxk fun r col => by
      rw [e2]; exact tile_weight x1 hx x4 x5 x7 hT M3 f3 M f k hF _ (off10_eq k) _ _ _ 2 _ (k0_off12_eq k) _ 4 13 5 14 _ _ _ _ rfl rfl rfl rfl r col
  · exact part_eq x1 hx _ _ x4 x5 3 k x v3 hxk fun r col => by
      rw [e3]; exact tile_weight x1 hx x4 x5 x7 hT M3 f3 M f k hF _ (off10_eq k) _ _ _ 3 _ (k0_off13_eq k) _ 6 15 7 16 _ _ _ _ rfl rfl rfl rfl r col

/-- Only the last tile has no tile after it. -/
theorem cond1_last : ∀ k : Fin k0_t2_loop.trips, ¬ k0_cond1 k = 1#1 → ∀ t : Fin 18, t.val ≠ k.val + 1 := by decide +kernel

set_option maxHeartbeats 40000000 in
/-- The tiles, one trip a tile. -/
@[instance_reducible] def tiles_t2 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S2304x1024 .i8) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2x2304x2x128 .bf16) (harg8 : arg8.IsWhole) (init : BitVec 32 × Mxu Ideal)

    (f1 : Bf (F := Ideal) c arg1) (f2 : Bf (F := Ideal) c arg2) (f3 : Bf (F := Ideal) c arg3) (f4 : Bf (F := Ideal) c arg4) (f5 : Bf (F := Ideal) c arg5) (f7 : Bf (F := Ideal) c arg7)
    (hx : Named (arg1.view.read (Elt Ideal) f1)) (hT : IsTable (arg4.view.read (Elt Ideal) f4) (arg5.view.read (Elt Ideal) f5) (arg7.view.read (Elt Ideal) f7)) :
    LoopInvTy_k0_t2 (F := Ideal) Unit ℕ (UR sig nD τ) ℕ Variants.none c none Set.univ i arg1 harg1 arg2 harg2 arg3 harg3 arg4 harg4 arg5 harg5 arg6 harg6 arg7 harg7 arg8 harg8 init where
  inv n acc := iprop(⌜Sums acc.2 n (part (arg1.view.read (Elt Ideal) f1) hx (arg2.view.read (Elt Ideal) f2) (arg3.view.read (Elt Ideal) f3) (arg4.view.read (Elt Ideal) f4) (arg5.view.read (Elt Ideal) f5))⌝ ∗ held c arg2 f2 ∗ held c arg3 f3 ∗ held c arg4 f4 ∗ held c arg5 f5
    ∗ Copying c arg1 arg7 arg8 f1 f7 fun f8 => ∀ t : Fin 18, t.val = n → Filled (grp (arg1.view.read (Elt Ideal) f1) hx) (arg7.view.read (Elt Ideal) f7) t 256 (arg8.view.read (Elt Ideal) f8))
  step k acc := by
    obtain ⟨a, s⟩ := acc
    unfold k0_t2_body
    iintro ⟨%hS, H2, H3, H4, H5, H1, H7, ⟨%f8, H8, %h8⟩⟩
    have hS : Sums s k.val (part (arg1.view.read (Elt Ideal) f1) hx (arg2.view.read (Elt Ideal) f2) (arg3.view.read (Elt Ideal) f3) (arg4.view.read (Elt Ideal) f4) (arg5.view.read (Elt Ideal) f5)) := hS
    have hs' : Resting s := hS.rest
    have p0 := pushOk_of_none s 0 0 false (hs'.reg 0 0)
    have hstart := fill_start (F := Ideal) (grp (arg1.view.read (Elt Ideal) f1) hx) k (h8 k rfl)
    by_cases hc : k0_cond1 k = 1#1
    · sl_exec (disch := first
        | exact pushOk_of_none _ _ _ _ ((hs'.pushAcc 0 0 0 (by decide) _ _ _).reg 1 0)
        | exact pushOk_of_none _ _ _ _ (((hs'.pushAcc 0 0 0 (by decide) _ _ _).pushAcc 1 0 0 (by decide) _ _ _).reg 0 1)
        | exact pushOk_of_none _ _ _ _ ((((hs'.pushAcc 0 0 0 (by decide) _ _ _).pushAcc 1 0 0 (by decide) _ _ _).pushAcc 0 1 64 (by decide) _ _ _).reg 1 1)
        | exact fill_start _ k (h8 k rfl))
      sl_step
      have hL : Filled (grp (arg1.view.read (Elt Ideal) f1) hx) (arg7.view.read (Elt Ideal) f7) k 256 (arg8.view.read (Elt Ideal) f8L0)
        ∧ ∀ t : Fin 18, t.val = k.val + 1 → Filled (grp (arg1.view.read (Elt Ideal) f1) hx) (arg7.view.read (Elt Ideal) f7) t 256 (arg8.view.read (Elt Ideal) f8L0) := hL3
      iframe
      isplitr
      · ipureintro
        exact trip_sums _ hx _ _ _ hT arg2 f2 arg3 f3 arg8 f8L0 k hL.1 s hS _ _ _ _ _ _ _ _ _ _ _ _ _ _ _ _ _ _ _ _ _ rfl rfl rfl rfl rfl
      · unfold Copying
        iframe
        iexists f8L0
        iframe
        ipureintro
        exact hL.2
    · sl_exec (disch := first
        | exact pushOk_of_none _ _ _ _ ((hs'.pushAcc 0 0 0 (by decide) _ _ _).reg 1 0)
        | exact pushOk_of_none _ _ _ _ (((hs'.pushAcc 0 0 0 (by decide) _ _ _).pushAcc 1 0 0 (by decide) _ _ _).reg 0 1)
        | exact pushOk_of_none _ _ _ _ ((((hs'.pushAcc 0 0 0 (by decide) _ _ _).pushAcc 1 0 0 (by decide) _ _ _).pushAcc 0 1 64 (by decide) _ _ _).reg 1 1))
      sl_step
      iframe
      isplitr
      · ipureintro
        exact trip_sums _ hx _ _ _ hT arg2 f2 arg3 f3 arg8 f8 k hstart.1 s hS _ _ _ _ _ _ _ _ _ _ _ _ _ _ _ _ _ _ _ _ _ rfl rfl rfl rfl rfl
      · unfold Copying
        iframe
        iexists f8
        iframe
        ipureintro
        exact fun t ht => absurd ht (cond1_last k hc t)

end Cert.Proof.KernelIdeal

end
-- ==== Proof.KernelIdeal.Table.lean ====
/-
  The table the kernel builds first: for every group and every block of 128 columns one row of zero points and one row of scales,
  written by eight strided stores, one a block of columns.
-/
module

public import proofs.«01_k».proof.Proof.Gen.KernelIdeal.Skeleton
public import proofs.«01_k».proof.Proof.KernelIdeal.Tile
public import Idealize.ShloMosaic.Lib.Writes
public import Idealize.ShloMosaic.Lib.Pointwise

@[expose] public section

set_option maxRecDepth 16384

noncomputable section

namespace Cert.Proof.KernelIdeal

open Cert.KernelIdeal Cert.KernelIdeal.Gen
open Idealize.ShloMosaic

theorem low_zero : ∀ b : BitVec 8, (IntOp.andi (b.setWidth 32) 15#32).toInt = (nib 0 b : ℤ) := by decide +kernel
theorem high_zero : ∀ b : BitVec 8, (IntOp.shrsi .vector (b.setWidth 32) 4#32).toInt = (nib 1 b : ℤ) := by decide +kernel

/-- The zero points' array holds each group's zero point in each column. -/
theorem zeros_apply (b : Vec Ideal S18x1024 .i8) (g : Fin 36) (col : Fin 1024) : k0_pay32 (F := Ideal) b (ix2 g col) = zeroV b g col := by
  pointwise [k0_pay32]
  unfold zeroV nibV
  by_cases h : g.val < 18
  · have e0 : g.val / 18 = 0 := by omega
    have e1 : g.val % 18 = g.val := by omega
    simp only [h, e0, e1, dite_true]
    show (((IntOp.andi (BitVec.setWidth 32 (b (ix2 ⟨g.val, h⟩ col))) 15#32).toInt : ℝ) : EReal) = _
    rw [low_zero]; push_cast; rfl
  · have e0 : g.val / 18 = 1 := by omega
    have e1 : g.val % 18 = g.val - 18 := by omega
    simp only [h, e0, e1, dite_false]
    show (((IntOp.shrsi ArithUnit.vector (BitVec.setWidth 32 (b (ix2 ⟨g.val - 18, _⟩ col))) 4#32).toInt : ℝ) : EReal) = _
    rw [high_zero]; push_cast; rfl

/-- One block of columns: a row of zero points and a row of scales for every group. -/
def packed (a v : FVec Ideal S36x1024 .bf16) (o : Fin 2 → ℕ) (hs : S36x1024.Slices o S36x128) : Vec Ideal S36x2x128 .bf16 :=
  interleaveRows S36x2x128 (shapeCast S36x1x128 (extractStridedSlice S36x128 o a hs) shapeCasts_S36x128_S36x1x128)
    (shapeCast S36x1x128 (extractStridedSlice S36x128 o v hs) shapeCasts_S36x128_S36x1x128) bitcasts_S36x2x128_w16_S36x1x128_w32

theorem packed_apply (a v : FVec Ideal S36x1024 .bf16) (o : ℕ) (ho : o + 128 ≤ 1024) (hs) (g : Fin 36) (p : Fin 2) (l : Fin 128) :
    packed a v ![0, o] hs (ix3 g p l) = (if p.val = 0 then a else v) (ix2 g ⟨o + l.val, by omega⟩) := by
  fin_cases p
  · pointwise [packed]
  · pointwise [packed]

theorem inbT : ∀ j : Fin 8, ∀ a : Fin 3, S36x2x128.size a = 0 ∨ (![j.val, 0, 0] : Fin 3 → ℕ) a + (![8, 1, 1] : Fin 3 → ℕ) a * (S36x2x128.size a - 1) < S288x2x128.size a := by
  decide +kernel

/-- The rows of the table that hold column block `j`. -/
abbrev rT (j : Fin 8) : Rect S288x2x128 := ⟨(⟨![j.val, 0, 0], S36x2x128.size, ![8, 1, 1], inbT j⟩ : LoadRect S288x2x128), spos_8_1_1⟩

section

variable (M : Memref sig .tc .vmem S288x2x128 .bf16) (f : M.view.ty.Contents (Elt Ideal)) (g : Fin 36) (j : Fin 8) (p : Fin 2) (l : Fin 128)

theorem table_hit (w : (rT j).shape.Idx → Elt Ideal .bf16) (L : List (View.Piece (Elt Ideal) S288x2x128 .bf16)) :
    M.view.read (Elt Ideal) (M.view.writes (Elt Ideal) f (⟨rT j, w⟩ :: L)) (ix3 (rowT g j) p l) = w (ix3 g p l) := by
  refine View.read_writes_cons_hit_of_coords M.view f (rT j) w L (ix3 g p l) _ fun a => ?_
  match a with
  | ⟨0, _⟩ => show 8 * g.val + j.val = j.val + 8 * g.val; omega
  | ⟨1, _⟩ => show p.val = 0 + 1 * p.val; omega
  | ⟨2, _⟩ => show l.val = 0 + 1 * l.val; omega

theorem table_miss (j' : Fin 8) (h : j ≠ j') (w : (rT j').shape.Idx → Elt Ideal .bf16) (L : List (View.Piece (Elt Ideal) S288x2x128 .bf16)) :
    M.view.read (Elt Ideal) (M.view.writes (Elt Ideal) f (⟨rT j', w⟩ :: L)) (ix3 (rowT g j) p l)
      = M.view.read (Elt Ideal) (M.view.writes (Elt Ideal) f L) (ix3 (rowT g j) p l) := by
  refine View.read_writes_cons_miss M.view f ⟨rT j', w⟩ L _ fun hm => ?_
  rw [← Rect.map_emb_univ] at hm
  obtain ⟨x, _, hx⟩ := Finset.mem_map.mp hm
  have h0 := congrArg (fun i : S288x2x128.Idx => (i 0 : ℕ)) hx
  simp only [Rect.emb_apply] at h0
  have h1 : j'.val + 8 * (x 0 : ℕ) = 8 * g.val + j.val := h0
  exact h (Fin.ext (by omega))

end

/-- Eight blocks of columns written, each group's rows read back. -/
theorem table_of_writes (M : Memref sig .tc .vmem S288x2x128 .bf16) (f : M.view.ty.Contents (Elt Ideal)) (x4 : Vec Ideal S36x1024 .bf16) (x5 : Vec Ideal S18x1024 .i8)
    (w : Fin 8 → Vec Ideal S36x2x128 .bf16)
    (hw : ∀ (j : Fin 8) (g : Fin 36) (p : Fin 2) (l : Fin 128), w j (ix3 g p l)
      = if p.val = 0 then zeroV x5 g ⟨128 * j.val + l.val, by omega⟩ else x4 (ix2 g ⟨128 * j.val + l.val, by omega⟩)) :
    IsTable x4 x5 (M.view.read (Elt Ideal) (M.view.writes (Elt Ideal) f [⟨rT 7, w 7⟩, ⟨rT 6, w 6⟩, ⟨rT 5, w 5⟩, ⟨rT 4, w 4⟩, ⟨rT 3, w 3⟩, ⟨rT 2, w 2⟩, ⟨rT 1, w 1⟩, ⟨rT 0, w 0⟩])) := by
  have key : ∀ g j p l, M.view.read (Elt Ideal) (M.view.writes (Elt Ideal) f [⟨rT 7, w 7⟩, ⟨rT 6, w 6⟩, ⟨rT 5, w 5⟩, ⟨rT 4, w 4⟩, ⟨rT 3, w 3⟩, ⟨rT 2, w 2⟩, ⟨rT 1, w 1⟩, ⟨rT 0, w 0⟩])
      (ix3 (rowT g j) p l) = w j (ix3 g p l) := by
    intro g j p l
    fin_cases j
    · iterate 7 refine (table_miss M f g 0 p l _ (by decide) _ _).trans ?_
      exact table_hit M f g 0 p l _ _
    · iterate 6 refine (table_miss M f g 1 p l _ (by decide) _ _).trans ?_
      exact table_hit M f g 1 p l _ _
    · iterate 5 refine (table_miss M f g 2 p l _ (by decide) _ _).trans ?_
      exact table_hit M f g 2 p l _ _
    · iterate 4 refine (table_miss M f g 3 p l _ (by decide) _ _).trans ?_
      exact table_hit M f g 3 p l _ _
    · iterate 3 refine (table_miss M f g 4 p l _ (by decide) _ _).trans ?_
      exact table_hit M f g 4 p l _ _
    · iterate 2 refine (table_miss M f g 5 p l _ (by decide) _ _).trans ?_
      exact table_hit M f g 5 p l _ _
    · refine (table_miss M f g 6 p l _ (by decide) _ _).trans ?_
      exact table_hit M f g 6 p l _ _
    · exact table_hit M f g 7 p l _ _
  exact fun g j l => ⟨(key g j 0 l).trans (hw j g 0 l), (key g j 1 l).trans (hw j g 1 l)⟩

theorem slicesT : ∀ j : Fin 8, S36x1024.Slices ![0, 128 * j.val] S36x128 := by decide +kernel

/-- What the eight stores write, from the scales' and the zero points' blocks as loaded. -/
def stored (v : Vec Ideal S36x1024 .bf16) (b : Vec Ideal S18x1024 .i8) (j : Fin 8) : Vec Ideal S36x2x128 .bf16 :=
  packed (k0_pay32 b) v ![0, 128 * j.val] (slicesT j)

theorem stored_apply (v : Vec Ideal S36x1024 .bf16) (b : Vec Ideal S18x1024 .i8) (j : Fin 8) (g : Fin 36) (p : Fin 2) (l : Fin 128) :
    stored v b j (ix3 g p l) = if p.val = 0 then zeroV b g ⟨128 * j.val + l.val, by omega⟩ else v (ix2 g ⟨128 * j.val + l.val, by omega⟩) := by
  rw [stored, packed_apply _ _ _ (by omega)]
  split_ifs
  · exact zeros_apply _ _ _
  · rfl

/-- A whole block loaded is the block. -/
theorem load_whole {S : Shape} {e : EltTy} (M : Memref sig .tc .vmem S e) (f : M.view.ty.Contents (Elt Ideal)) (off : Fin S.rank → ℕ) (h : ∀ a, off a = 0)
    (inb : ∀ a, off a + S.size a ≤ S.size a) (j : S.Idx) :
    M.view.readAt (Elt Ideal) (Rect.unit (s := S) off S.size inb).toLoadRect f j = M.view.read (Elt Ideal) f j := by
  rw [View.readAt_apply]
  congr 1
  funext a
  apply Fin.ext
  rw [LoadRect.idx_apply]
  show off a + 1 * (j a).val = (j a).val
  rw [h]; omega

/-- The table after the kernel's eight stores. -/
theorem table_stored (M : Memref sig .tc .vmem S288x2x128 .bf16) (f : M.view.ty.Contents (Elt Ideal)) (M4 : Memref sig .tc .vmem S36x1024 .bf16)
    (f4 : M4.view.ty.Contents (Elt Ideal)) (M5 : Memref sig .tc .vmem S18x1024 .i8) (f5 : M5.view.ty.Contents (Elt Ideal))
    (v : Vec Ideal S36x1024 .bf16) (b : Vec Ideal S18x1024 .i8)
    (hv : v = M4.view.readAt (Elt Ideal) (Rect.unit (s := S36x1024) ![0, 0] S36x1024.size inb_S36x1024_S36x1024_0_0).toLoadRect f4)
    (hb : b = M5.view.readAt (Elt Ideal) (Rect.unit (s := S18x1024) ![0, 0] S18x1024.size inb_S18x1024_S18x1024_0_0).toLoadRect f5) :
    IsTable (M4.view.read (Elt Ideal) f4) (M5.view.read (Elt Ideal) f5) (M.view.read (Elt Ideal) (M.view.writes (Elt Ideal) f
      [⟨rT 7, stored v b 7⟩, ⟨rT 6, stored v b 6⟩, ⟨rT 5, stored v b 5⟩, ⟨rT 4, stored v b 4⟩, ⟨rT 3, stored v b 3⟩, ⟨rT 2, stored v b 2⟩, ⟨rT 1, stored v b 1⟩, ⟨rT 0, stored v b 0⟩])) := by
  have ev : v = M4.view.read (Elt Ideal) f4 := hv.trans (funext (load_whole M4 f4 _ (by decide) _))
  have eb : b = M5.view.read (Elt Ideal) f5 := hb.trans (funext (load_whole M5 f5 _ (by decide) _))
  rw [← ev, ← eb]
  exact table_of_writes M f v b (stored v b) (stored_apply v b)

end Cert.Proof.KernelIdeal

end
-- ==== Proof.KernelIdeal.Body.lean ====
/-
  The kernel at one grid point, its result named: the block of the output holds, for every row and column, the sum over the
  channels of the activation times the dequantized weight.
-/
module

public import proofs.«01_k».proof.Proof.KernelIdeal.Tiles
public import proofs.«01_k».proof.Proof.KernelIdeal.Table

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Mxu
open scoped BigOperators

local notation "𝕄" => MT nD τ sig Unit (Elt Ideal) ℕ (UR sig nD τ) ℕ

/-- What the kernel leaves in its output block. -/
def outBlock (x1 : Vec Ideal S4608 .i32) (hx : Named x1) (x2 : Vec Ideal S256x4608 .bf16) (x3 : Vec Ideal S2304x1024 .i8) (x4 : Vec Ideal S36x1024 .bf16)
    (x5 : Vec Ideal S18x1024 .i8) : Vec Ideal S256x1024 .bf16 := fun j =>
  ∑ t ∈ Finset.range 18, part x1 hx x2 x3 x4 x5 ⟨(j 1).val / 256, Nat.div_lt_of_lt_mul (j 1).isLt⟩ t ⟨(j 0).val, (j 0).isLt⟩ ⟨(j 1).val % 256, Nat.mod_lt _ (by decide)⟩

section

variable (M : Memref sig .tc .vmem S256x1024 .bf16) (f : M.view.ty.Contents (Elt Ideal)) (i : Fin 256) (n : Fin 4) (l : Fin 256)

/-- A column block of the output written and read back. -/
theorem out_hit (off : Fin 2 → ℕ) (h : off = ![0, 256 * n.val]) (inb : ∀ a, off a + S256x256.size a ≤ S256x1024.size a)
    (w : S256x256.Idx → Elt Ideal .bf16) (L : List (View.Piece (Elt Ideal) S256x1024 .bf16)) :
    M.view.read (Elt Ideal) (M.view.writes (Elt Ideal) f (⟨Rect.unit (s := S256x1024) off S256x256.size inb, w⟩ :: L)) (ix2 i ⟨256 * n.val + l.val, by omega⟩) = w (ix2 i l) := by
  subst h
  refine View.read_writes_cons_hit_of_coords M.view f (Rect.unit (s := S256x1024) ![0, 256 * n.val] S256x256.size inb) w L (ix2 i l) _ fun a => ?_
  have ha : a = 0 ∨ a = 1 := by revert a; decide
  rcases ha with rfl | rfl
  · show i.val = 0 + 1 * i.val; omega
  · show 256 * n.val + l.val = 256 * n.val + 1 * l.val; omega

theorem out_miss (n' : Fin 4) (hn : n ≠ n') (off : Fin 2 → ℕ) (h : off = ![0, 256 * n'.val]) (inb : ∀ a, off a + S256x256.size a ≤ S256x1024.size a)
    (w : S256x256.Idx → Elt Ideal .bf16) (L : List (View.Piece (Elt Ideal) S256x1024 .bf16)) :
    M.view.read (Elt Ideal) (M.view.writes (Elt Ideal) f (⟨Rect.unit (s := S256x1024) off S256x256.size inb, w⟩ :: L)) (ix2 i ⟨256 * n.val + l.val, by omega⟩)
      = M.view.read (Elt Ideal) (M.view.writes (Elt Ideal) f L) (ix2 i ⟨256 * n.val + l.val, by omega⟩) := by
  subst h
  have hv : n.val ≠ n'.val := fun e => hn (Fin.ext e)
  refine View.read_writes_cons_miss_of_axis M.view f _ L _ 1 (256 * n'.val) 256 rfl rfl rfl ?_
  show 256 * n.val + l.val < 256 * n'.val ∨ 256 * n'.val + 256 ≤ 256 * n.val + l.val
  omega

end

/-- The accumulators stored, one column block each, are the output block. -/
theorem out_of_sums (x1 : Vec Ideal S4608 .i32) (hx : Named x1) (x2 : Vec Ideal S256x4608 .bf16) (x3 : Vec Ideal S2304x1024 .i8) (x4 : Vec Ideal S36x1024 .bf16)
    (x5 : Vec Ideal S18x1024 .i8) (M : Memref sig .tc .vmem S256x1024 .bf16) (f : M.view.ty.Contents (Elt Ideal)) (s : Mxu Ideal)
    (hS : Sums s 18 (part x1 hx x2 x3 x4 x5)) :
    M.view.read (Elt Ideal) (M.view.writes (Elt Ideal) f
      [⟨Rect.unit (s := S256x1024) ![0, 768] S256x256.size inb_S256x1024_S256x256_0_768, k0_pay7 (F := Ideal)
          ((((s.pop 0 0 256 fits_0_256).pop 1 0 256 fits_0_256).pop 0 64 256 fits_64_256).read 1 64 fits_64_256)⟩,
        ⟨Rect.unit (s := S256x1024) ![0, 512] S256x256.size inb_S256x1024_S256x256_0_512, k0_pay6 (F := Ideal)
          (((s.pop 0 0 256 fits_0_256).pop 1 0 256 fits_0_256).read 0 64 fits_64_256)⟩,
        ⟨Rect.unit (s := S256x1024) ![0, 256] S256x256.size inb_S256x1024_S256x256_0_256, k0_pay5 (F := Ideal) ((s.pop 0 0 256 fits_0_256).read 1 0 fits_0_256)⟩,
        ⟨Rect.unit (s := S256x1024) ![0, 0] S256x256.size inb_S256x1024_S256x256_0_0, k0_pay4 (F := Ideal) (s.read 0 0 fits_0_256)⟩])
      = outBlock x1 hx x2 x3 x4 x5 := by
  funext j
  obtain ⟨i, n, l, rfl⟩ : ∃ (i : Fin 256) (n : Fin 4) (l : Fin 256), j = ix2 i ⟨256 * n.val + l.val, by omega⟩ := by
    have h1 : (j 1).val < 1024 := (j 1).isLt
    refine ⟨⟨(j 0).val, (j 0).isLt⟩, ⟨(j 1).val / 256, by omega⟩, ⟨(j 1).val % 256, by omega⟩, funext fun a => Fin.ext ?_⟩
    match a with
    | ⟨0, _⟩ => rfl
    | ⟨1, _⟩ => show (j 1).val = 256 * ((j 1).val / 256) + (j 1).val % 256; omega
  have eo : outBlock x1 hx x2 x3 x4 x5 (ix2 i ⟨256 * n.val + l.val, by omega⟩) = ∑ t ∈ Finset.range 18, part x1 hx x2 x3 x4 x5 n t i l := by
    unfold outBlock
    have e1 : (⟨(256 * n.val + l.val) / 256, by omega⟩ : Fin 4) = n := Fin.ext (by show (256 * n.val + l.val) / 256 = n.val; omega)
    have e2 : (⟨(256 * n.val + l.val) % 256, by omega⟩ : Fin 256) = l := Fin.ext (by show (256 * n.val + l.val) % 256 = l.val; omega)
    refine Finset.sum_congr rfl fun t _ => ?_
    show part x1 hx x2 x3 x4 x5 ⟨(256 * n.val + l.val) / 256, _⟩ t i ⟨(256 * n.val + l.val) % 256, _⟩ = _
    rw [e1, e2]
  rw [eo]
  fin_cases n
  · refine (out_miss M f i 0 l 3 (by decide) _ rfl _ _ _).trans ?_
    refine (out_miss M f i 0 l 2 (by decide) _ rfl _ _ _).trans ?_
    refine (out_miss M f i 0 l 1 (by decide) _ rfl _ _ _).trans ?_
    exact (out_hit M f i 0 l _ rfl _ _ _).trans ((hS.a0 fits_0_256).read (by decide) i l)
  · refine (out_miss M f i 1 l 3 (by decide) _ rfl _ _ _).trans ?_
    refine (out_miss M f i 1 l 2 (by decide) _ rfl _ _ _).trans ?_
    refine (out_hit M f i 1 l _ rfl _ _ _).trans ?_
    rw [read_pop_ne _ _ _ _ _ _ _ (by decide)]
    exact (hS.a1 fits_0_256).read (by decide) i l
  · refine (out_miss M f i 2 l 3 (by decide) _ rfl _ _ _).trans ?_
    refine (out_hit M f i 2 l _ rfl _ _ _).trans ?_
    rw [read_pop_ne _ _ _ _ _ _ _ (by decide), read_pop_ne _ _ _ _ _ _ _ (by decide)]
    exact (hS.a2 fits_64_256).read (by decide) i l
  · refine (out_hit M f i 3 l _ rfl _ _ _).trans ?_
    rw [read_pop_ne _ _ _ _ _ _ _ (by decide), read_pop_ne _ _ _ _ _ _ _ (by decide), read_pop_ne _ _ _ _ _ _ _ (by decide)]
    exact (hS.a3 fits_64_256).read (by decide) i l

set_option maxHeartbeats 40000000 in
/-- The kernel at one grid point, on whole buffers: it hands the inputs back as they were, the output block at its value. -/
theorem sound_value (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S2304x1024 .i8) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2x2304x2x128 .bf16) (harg8 : arg8.IsWhole)
    (x1 : Vec Ideal S4608 .i32) (x2 : Vec Ideal S256x4608 .bf16) (x3 : Vec Ideal S2304x1024 .i8) (x4 : Vec Ideal S36x1024 .bf16) (x5 : Vec Ideal S18x1024 .i8) (hx : Named x1)
    (f7 : Bf (F := Ideal) c arg7) (f8 : Bf (F := Ideal) c arg8) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ pt c arg7 f7 ∗ pt c arg8 f8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare (outBlock x1 hx x2 x3 x4 x5)
            ∗ (∃ f, pt c arg7 f) ∗ (∃ f, pt c arg8 f)) -∗ K ⟨⟩))
      ⊢ wp frame (wpE (defs₀ (F := Ideal)) Variants.none c none) Set.univ (cc0_gptq_linear i arg1 harg1 arg2 harg2 arg3 harg3 arg4 harg4 arg5 harg5 arg6 harg6 arg7 harg7 arg8 harg8) K := by
  simp only [cc0_gptq_linear_eq_skeleton]; unfold cc0_gptq_linear_skel
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, H7, H8, Hk⟩
  subst h1 h2 h3 h4 h5
  sl_exec
  obtain ⟨g7, hg⟩ : ∃ g, arg7.view.writes (Elt Ideal) f7
      (⟨{ off := ![7, 0, 0], size := S36x2x128.size, stride := ![8, 1, 1],
            inb := inb_S288x2x128_S36x2x128_7_0_0_s_8_1_1, stride_pos := spos_8_1_1 },
          k0_pay1 (sound_value.sl.v45_lo c arg5 f5) (sound_value.sl.v45_hi c arg4 f4)⟩ ::
        sound_value.sl.H7_7 c arg4 arg5 f4 f5) = g := ⟨_, rfl⟩
  have hT : IsTable (arg4.view.read (Elt Ideal) f4) (arg5.view.read (Elt Ideal) f5) (arg7.view.read (Elt Ideal) g7) := by
    rw [← hg]
    exact table_stored arg7 f7 arg4 f4 arg5 f5 _ _ rfl rfl
  rw [hg]
  clear hg
  have h0 : Filled (grp (arg1.view.read (Elt Ideal) f1) hx) (arg7.view.read (Elt Ideal) g7) 0 0 (arg8.view.read (Elt Ideal) f8) :=
    fun _ h => (Nat.not_lt_zero _ h).elim
  let L1 := copy_t1 (F := Ideal) c i arg1 harg1 arg2 harg2 arg3 harg3 arg4 harg4 arg5 harg5 arg6 harg6 arg7 harg7 arg8 harg8 0#32 f1 g7 hx
  sl_exec
  have hL : Filled (grp (arg1.view.read (Elt Ideal) f1) hx) (arg7.view.read (Elt Ideal) g7) 0 256 (arg8.view.read (Elt Ideal) f8L0) := hL3
  have h1 : ∀ t : Fin 18, t.val = 0 → Filled (grp (arg1.view.read (Elt Ideal) f1) hx) (arg7.view.read (Elt Ideal) g7) t 256 (arg8.view.read (Elt Ideal) f8L0) :=
    fun t ht => (show t = 0 from Fin.ext ht) ▸ hL
  have hS0 : Sums (Mxu.init (F := Ideal)) 0 (part (arg1.view.read (Elt Ideal) f1) hx (arg2.view.read (Elt Ideal) f2) (arg3.view.read (Elt Ideal) f3) (arg4.view.read (Elt Ideal) f4) (arg5.view.read (Elt Ideal) f5)) := sums_init _
  clear L1
  let L2 := tiles_t2 c i arg1 harg1 arg2 harg2 arg3 harg3 arg4 harg4 arg5 harg5 arg6 harg6 arg7 harg7 arg8 harg8 (0#32, Mxu.init) f1 f2 f3 f4 f5 g7 hx hT
  sl_exec (disch := exact Resting.drained (Sums.rest ‹_›) _ _)
  sl_step
  iapply Hk
  isplitl [H1]; · (iexists f1; isplitr; · (ipureintro; rfl)); iexact H1
  isplitl [H2]; · (iexists f2; isplitr; · (ipureintro; rfl)); iexact H2
  isplitl [H3]; · (iexists f3; isplitr; · (ipureintro; rfl)); iexact H3
  isplitl [H4]; · (iexists f4; isplitr; · (ipureintro; rfl)); iexact H4
  isplitl [H5]; · (iexists f5; isplitr; · (ipureintro; rfl)); iexact H5
  isplitl [H6]
  · iexists _
    isplitr
    · ipureintro
      exact out_of_sums _ hx _ _ _ _ arg6 f6 _ hL0
    · iexact H6
  isplitl [H7]; · iexists _; iexact H7
  iexists _; iexact H8

end Cert.Proof.KernelIdeal

end
-- ==== Proof.KernelIdeal.Run.lean ====
/-
  `KernelIdeal` run from words that name groups, its result named: every run ends with each block of the result at what the kernel
  computes from the inputs' blocks.
-/
module

public import proofs.«01_k».proof.Proof.KernelIdeal.Body
public import Idealize.ShloMosaic.Lib.Pipeline.ValueKit

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Mxu
open Idealize.ShloMosaic.Pipeline (Dat Cfg Window BodyObligation cellOf)

local notation "𝕄" => MT nD τ sig Unit (Elt Ideal) ℕ (UR sig nD τ) ℕ

/-! ## The pipeline's proof data, its result named -/

variable (m : (ℓ : Loc nD τ sig) → Buf (Elt Ideal) ℓ) (ρ : Dev nD → PrngReg)

variable (hn : ∀ c : Dev nD, Named (m ((c : Thread nD τ).loc main_arg4)))

/-- The block of group words read at any point names groups when the array does. -/
theorem named_block (c : Dev nD) (t : Fin cfg0.N) (hn : Named (m ((c : Thread nD τ).loc main_arg4))) : Named (iblk m c 0 t) := fun j => by
  unfold iblk
  rw [View.read_apply, cast_eq]
  exact hn _

/-- The proof data: the arrays as the region finds them, each input's buffer at its block after the body, the result's at
    what the kernel computes from the inputs' blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (named_block m c t (hn c)) (iblk m c 1 t) (iblk m c 2 t) (iblk m c 3 t) (iblk m c 4 t)
  Φ _ := Pipeline.ΦA spec0 c
  q _ := fullShare
  owed _ := 0

theorem A_eq (c : Dev nD) (w : Fin cfg0.W) : (dats m hn 0 c).A w = V m c (Pipeline.arrRef spec0 w) := by
  dsimp only [dats]

theorem after0_0 (c : Dev nD) (t : Fin cfg0.N) : (dats m hn 0 c).after 0 t = iblk m c 0 t := by dsimp only [dats]
theorem after0_1 (c : Dev nD) (t : Fin cfg0.N) : (dats m hn 0 c).after 1 t = iblk m c 1 t := by dsimp only [dats]
theorem after0_2 (c : Dev nD) (t : Fin cfg0.N) : (dats m hn 0 c).after 2 t = iblk m c 2 t := by dsimp only [dats]
theorem after0_3 (c : Dev nD) (t : Fin cfg0.N) : (dats m hn 0 c).after 3 t = iblk m c 3 t := by dsimp only [dats]
theorem after0_4 (c : Dev nD) (t : Fin cfg0.N) : (dats m hn 0 c).after 4 t = iblk m c 4 t := by dsimp only [dats]
theorem after0_5 (c : Dev nD) (t : Fin cfg0.N) : (dats m hn 0 c).after 5 t = outBlock (iblk m c 0 t) (named_block m c t (hn c)) (iblk m c 1 t) (iblk m c 2 t) (iblk m c 3 t) (iblk m c 4 t) := by dsimp only [dats]
theorem before0_0 (c : Dev nD) (t : Fin cfg0.N) (d) : (dats m hn 0 c).before 0 t d = iblk m c 0 t := before0_0_of m (dats m hn 0 c) (A_eq m hn c 0) (after0_0 m hn c) t d
theorem before0_1 (c : Dev nD) (t : Fin cfg0.N) (d) : (dats m hn 0 c).before 1 t d = iblk m c 1 t := before0_1_of m (dats m hn 0 c) (A_eq m hn c 1) (after0_1 m hn c) t d
theorem before0_2 (c : Dev nD) (t : Fin cfg0.N) (d) : (dats m hn 0 c).before 2 t d = iblk m c 2 t := before0_2_of m (dats m hn 0 c) (A_eq m hn c 2) (after0_2 m hn c) t d
theorem before0_3 (c : Dev nD) (t : Fin cfg0.N) (d) : (dats m hn 0 c).before 3 t d = iblk m c 3 t := before0_3_of m (dats m hn 0 c) (A_eq m hn c 3) (after0_3 m hn c) t d
theorem before0_4 (c : Dev nD) (t : Fin cfg0.N) (d) : (dats m hn 0 c).before 4 t d = iblk m c 4 t := before0_4_of m (dats m hn 0 c) (A_eq m hn c 4) (after0_4 m hn c) t d

/-- What the body is called with at a point, window by window, and what it returns. -/
def bodyPre (c : Dev nD) (t : Fin cfg0.N) : sProp 𝕄 :=
  iprop((dats m hn 0 c).Φ t.castSucc ∗ (dats m hn 0 c).owesAt () t.castSucc
    ∗ (∃ d, owns (c : Thread nD τ) (st0_0 t) fullShare ((dats m hn 0 c).before 0 t d))
    ∗ (∃ d, owns (c : Thread nD τ) (st0_1 t) fullShare ((dats m hn 0 c).before 1 t d))
    ∗ (∃ d, owns (c : Thread nD τ) (st0_2 t) fullShare ((dats m hn 0 c).before 2 t d))
    ∗ (∃ d, owns (c : Thread nD τ) (st0_3 t) fullShare ((dats m hn 0 c).before 3 t d))
    ∗ (∃ d, owns (c : Thread nD τ) (st0_4 t) fullShare ((dats m hn 0 c).before 4 t d))
    ∗ (∃ d, owns (c : Thread nD τ) (st0_5 t) fullShare ((dats m hn 0 c).before 5 t d)))
def bodyPost (c : Dev nD) (t : Fin cfg0.N) : sProp 𝕄 :=
  iprop((dats m hn 0 c).Φ t.succ ∗ (dats m hn 0 c).owesAt () t.succ
    ∗ owns (c : Thread nD τ) (st0_0 t) fullShare ((dats m hn 0 c).after 0 t)
    ∗ owns (c : Thread nD τ) (st0_1 t) fullShare ((dats m hn 0 c).after 1 t)
    ∗ owns (c : Thread nD τ) (st0_2 t) fullShare ((dats m hn 0 c).after 2 t)
    ∗ owns (c : Thread nD τ) (st0_3 t) fullShare ((dats m hn 0 c).after 3 t)
    ∗ owns (c : Thread nD τ) (st0_4 t) fullShare ((dats m hn 0 c).after 4 t)
    ∗ owns (c : Thread nD τ) (st0_5 t) fullShare ((dats m hn 0 c).after 5 t))

set_option maxHeartbeats 4000000 in
theorem sound_body (c : Dev nD) (t : Fin cfg0.N) :
    bodyPre m hn c t ⊢ wp frame (wpE (defs₀ (F := Ideal)) Variants.none c none) Set.univ (bodyAt0 t) (fun _ => bodyPost m hn c t) := by
  unfold bodyPre bodyPost bodyAt0
  simp only [before0_0, before0_1, before0_2, before0_3, before0_4]
  rw [show (dats m hn 0 c).Φ t.succ = Pipeline.ΦA spec0 c from rfl, show (dats m hn 0 c).Φ t.castSucc = Pipeline.ΦA spec0 c from rfl,
    show (dats m hn 0 c).owesAt () t.succ = (dats m hn 0 c).owesAt () t.castSucc from rfl,
    after0_0, after0_1, after0_2, after0_3, after0_4, after0_5]
  unfold Pipeline.ΦA
  rw [scopedRest0_eq]
  iintro ⟨⟨⟨⟨%f7, H7⟩, ⟨%f8, H8⟩⟩, HP⟩, Ho, ⟨%d0, H0⟩, ⟨%d1, H1⟩, ⟨%d2, H2⟩, ⟨%d3, H3⟩, ⟨%d4, H4⟩, ⟨%d5, H5⟩⟩
  iapply (sound_value c (grid0.coords t) _ _ _ _ _ _ _ _ _ _ _ _ _ (Memref.isWhole_whole _) _ (Memref.isWhole_whole _) (iblk m c 0 t) (iblk m c 1 t) (iblk m c 2 t) (iblk m c 3 t) (iblk m c 4 t) (named_block m c t (hn c)) f7 f8 _)
  isplitl [H0]; · iexact H0
  isplitl [H1]; · iexact H1
  isplitl [H2]; · iexact H2
  isplitl [H3]; · iexact H3
  isplitl [H4]; · iexact H4
  isplitl [H5]; · iexists _; iexact H5
  isplitl [H7]; · iexact H7
  isplitl [H8]; · iexact H8
  iintro ⟨H0, H1, H2, H3, H4, H5, H7, H8⟩
  isplitl [HP H7 H8]
  · isplitr [HP]
    · isplitl [H7]; · iexact H7
      iexact H8
    · iexact HP
  isplitl [Ho]; · iexact Ho
  isplitl [H0]; · iexact H0
  isplitl [H1]; · iexact H1
  isplitl [H2]; · iexact H2
  isplitl [H3]; · iexact H3
  isplitl [H4]; · iexact H4
  iexact H5

/-- The body table's row at a point's slots is the body. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m hn 0 c) (defs₀ (F := Ideal)) Variants.none () Set.univ := fun t => by
  rw [bigSep_W0, bigSep_W0, defs₀_row]
  exact triple_restated (sound_body m hn c t) rfl .rfl fun _ => .rfl

/-! ## The run -/

set_option backward.isDefEq.respectTransparency.types false in
/-- Every run ends, the arrays as the proof data say and every counter at zero. -/
theorem run_main : θ_run defs (onTc (τ := τ) (main (F := Ideal))) (s₀ m ρ)
    (fun r => Pipeline.FramePost cfgs (dats m hn) 0 (V m) r ∧ r.2.sem = fun _ => 0) :=
  Pipeline.θ_run_frame (Q' := _) cfgs (dats m hn) (0 : Fin 1) launch0 defs₀ Variants.none m ρ main
    (hbody := fun c => (body_obligation m hn c).loose) (hshare := fun c => (dats m hn 0 c).share_full fun _ => rfl)
    (howed := fun _ _ => rfl) (V := V m) (hmain := hmain m Variants.none) (hA := A_eq m hn) (hΦ := fun _ _ => rfl)

end Cert.Proof.KernelIdeal.Value

end
-- ==== Proof.Answer.lean ====
/-
  What both programs compute, stated once: the product of the activations with the weights that the packed codes, the packed
  zero points and the scales stand for, as a sum over the channels.
-/
module

public import proofs.«01_k».proof.Proof.KernelIdeal.Tile

@[expose] public section

noncomputable section

namespace Cert.Proof

open Idealize.ShloMosaic
open Cert.Proof.KernelIdeal (nibV)

/-- The weight of channel `ch` in column `col`: the code less its group's zero point, times its group's scale. -/
def weight (q : Fin 2304 → Fin 36864 → BitVec 8) (s : Fin 36 → Fin 36864 → EReal) (z : Fin 18 → Fin 36864 → BitVec 8) (g : Fin 4608 → Fin 36)
    (ch : Fin 4608) (col : Fin 36864) : EReal :=
  (nibV (ch.val % 2) (q ⟨ch.val / 2, by omega⟩ col) - nibV ((g ch).val / 18) (z ⟨(g ch).val % 18, by omega⟩ col)) * s (g ch) col

/-- One element of the product. -/
def answer (x : Fin 256 → Fin 4608 → EReal) (q : Fin 2304 → Fin 36864 → BitVec 8) (s : Fin 36 → Fin 36864 → EReal) (z : Fin 18 → Fin 36864 → BitVec 8)
    (g : Fin 4608 → Fin 36) (i : Fin 256) (col : Fin 36864) : EReal :=
  ∑ ch : Fin 4608, x i ch * weight q s z g ch col

/-- The sum over the channels, tile by tile. -/
theorem sum_tiles (f : Fin 4608 → EReal) :
    ∑ ch : Fin 4608, f ch = ∑ t : Fin 18, ∑ k : Fin 256, f ⟨256 * t.val + k.val, by omega⟩ := by
  rw [Fin.sum_univ_tiles 18 256 rfl f]
  refine Finset.sum_congr rfl fun t _ => Finset.sum_congr rfl fun k _ => congrArg f (Fin.ext ?_)
  show t.val * 256 + k.val = 256 * t.val + k.val
  omega

/-- The sum over the channels, the even ones and then the odd ones. -/
theorem sum_halves (f : Fin 4608 → EReal) :
    ∑ ch : Fin 4608, f ch = ∑ j : Fin 2, ∑ k : Fin 2304, f ⟨2 * k.val + j.val, by omega⟩ := by
  rw [Fin.sum_univ_tiles 2304 2 rfl f, Finset.sum_comm]
  refine Finset.sum_congr rfl fun j _ => Finset.sum_congr rfl fun k _ => congrArg f (Fin.ext ?_)
  show k.val * 2 + j.val = 2 * k.val + j.val
  omega

end Cert.Proof

end
-- ==== Proof.KernelIdeal.Array.lean ====
/-
  What the result array holds after the run: every element is the sum over the channels of the activation times the weight.
-/
module

public import proofs.«01_k».proof.Proof.KernelIdeal.Run
public import proofs.«01_k».proof.Proof.Answer

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL.Sem

/-- The arguments' product, as an array. -/
def product (x : Vec Ideal S256x1x4608 .bf16) (q : Vec Ideal S2304x36864 .i8) (s : Vec Ideal S36x36864 .bf16) (z : Vec Ideal S18x36864 .i8)
    (g : Vec Ideal S4608 .i32) (hg : Named g) : Vec Ideal S256x36864 .bf16 := fun y =>
  answer (fun i ch => x (ix3 i 0 ch)) (fun r col => q (ix2 r col)) (fun r col => s (ix2 r col)) (fun r col => z (ix2 r col)) (grp g hg)
    ⟨(y 0).val, (y 0).isLt⟩ ⟨(y 1).val, (y 1).isLt⟩

/-- Where each window's block lies. -/
theorem idx : ∀ t : Fin cfg0.N, win0_0.index t = ![0] ∧ win0_1.index t = ![0, 0] ∧ win0_2.index t = ![0, t.val] ∧ win0_3.index t = ![0, t.val]
    ∧ win0_4.index t = ![0, t.val] ∧ win0_5.index t = ![0, t.val] :=
  (by decide +kernel : ∀ t : Fin grid0.N, _)

variable (m : (ℓ : Loc nD τ sig) → Buf (Elt Ideal) ℓ)

/-- One element of the block of the result. -/
theorem outBlock_at (x1 : Vec Ideal S4608 .i32) (hx : Named x1) (x2 : Vec Ideal S256x4608 .bf16) (x3 : Vec Ideal S2304x1024 .i8) (x4 : Vec Ideal S36x1024 .bf16)
    (x5 : Vec Ideal S18x1024 .i8) (y : S256x1024.Idx) :
    outBlock x1 hx x2 x3 x4 x5 y = ∑ t : Fin 18, ∑ k : Fin 256,
      x2 (ix2 ⟨(y 0).val, (y 0).isLt⟩ (chan t k)) * wgt x1 hx x3 x4 x5 (chan t k) ⟨(y 1).val, (y 1).isLt⟩ := by
  unfold outBlock
  rw [Finset.sum_range]
  refine Finset.sum_congr rfl fun t _ => ?_
  unfold part
  rw [dif_pos t.isLt]
  have e : (⟨256 * ((y 1).val / 256) + (y 1).val % 256, by have : (y 1).val < 1024 := (y 1).isLt; omega⟩ : Fin 1024) = ⟨(y 1).val, (y 1).isLt⟩ :=
    Fin.ext (by show 256 * ((y 1).val / 256) + (y 1).val % 256 = (y 1).val; omega)
  refine Finset.sum_congr rfl fun k _ => ?_
  exact congrArg (fun u => x2 (ix2 ⟨(y 0).val, (y 0).isLt⟩ (chan t k)) * wgt x1 hx x3 x4 x5 (chan t k) u) e

theorem words_read (c : Dev nD) (t : Fin cfg0.N) (k : Fin 4608) :
    (iblk m c 0 t : Vec Ideal S4608 .i32) (ix1 k) = (m ((c : Thread nD τ).loc main_arg4) : Vec Ideal S4608 .i32) (ix1 k) := by
  blk_ext [iblk, V, idx t]

theorem acts_read (c : Dev nD) (t : Fin cfg0.N) (i : Fin 256) (k : Fin 4608) :
    (iblk m c 1 t : Vec Ideal S256x4608 .bf16) (ix2 i k) = (m ((c : Thread nD τ).loc main_arg0) : Vec Ideal S256x1x4608 .bf16) (ix3 i 0 k) := by
  blk_point [iblk, V, idx t]

theorem codes_read (c : Dev nD) (t : Fin cfg0.N) (r : Fin 2304) (col : Fin 1024) (co : Fin 36864) (h : co.val = 1024 * t.val + col.val) :
    (iblk m c 2 t : Vec Ideal S2304x1024 .i8) (ix2 r col) = (m ((c : Thread nD τ).loc main_arg1) : Vec Ideal S2304x36864 .i8) (ix2 r co) := by
  blk_ext [iblk, V, idx t]

theorem scales_read (c : Dev nD) (t : Fin cfg0.N) (r : Fin 36) (col : Fin 1024) (co : Fin 36864) (h : co.val = 1024 * t.val + col.val) :
    (iblk m c 3 t : Vec Ideal S36x1024 .bf16) (ix2 r col) = (m ((c : Thread nD τ).loc main_arg2) : Vec Ideal S36x36864 .bf16) (ix2 r co) := by
  blk_ext [iblk, V, idx t]

theorem zeros_read (c : Dev nD) (t : Fin cfg0.N) (r : Fin 18) (col : Fin 1024) (co : Fin 36864) (h : co.val = 1024 * t.val + col.val) :
    (iblk m c 4 t : Vec Ideal S18x1024 .i8) (ix2 r col) = (m ((c : Thread nD τ).loc main_arg3) : Vec Ideal S18x36864 .i8) (ix2 r co) := by
  blk_ext [iblk, V, idx t]

variable (hn : ∀ c : Dev nD, Named (m ((c : Thread nD τ).loc main_arg4)))

/-- The groups read off the block of words are the array's. -/
theorem grp_block (c : Dev nD) (t : Fin cfg0.N) (k : Fin 4608) :
    grp (iblk m c 0 t) (named_block m c t (hn c)) k = grp (m ((c : Thread nD τ).loc main_arg4)) (hn c) k :=
  Fin.ext (by
    have e : BitVec.toNat (w := 32) ((iblk m c 0 t : Vec Ideal S4608 .i32) (ix1 k)) = BitVec.toNat (w := 32) ((m ((c : Thread nD τ).loc main_arg4) : Vec Ideal S4608 .i32) (ix1 k)) :=
      congrArg (fun w : BitVec 32 => w.toNat) (words_read m c t k)
    exact e)

/-- A block's weight is the arrays' weight. -/
theorem wgt_block (c : Dev nD) (t : Fin cfg0.N) (ch : Fin 4608) (col : Fin 1024) (co : Fin 36864) (h : co.val = 1024 * t.val + col.val) :
    wgt (iblk m c 0 t) (named_block m c t (hn c)) (iblk m c 2 t) (iblk m c 3 t) (iblk m c 4 t) ch col
      = weight (fun r col => (m ((c : Thread nD τ).loc main_arg1) : Vec Ideal S2304x36864 .i8) (ix2 r col))
          (fun r col => (m ((c : Thread nD τ).loc main_arg2) : Vec Ideal S36x36864 .bf16) (ix2 r col))
          (fun r col => (m ((c : Thread nD τ).loc main_arg3) : Vec Ideal S18x36864 .i8) (ix2 r col))
          (grp (m ((c : Thread nD τ).loc main_arg4)) (hn c)) ch co := by
  unfold wgt zeroV weight
  rw [grp_block m hn c t ch, codes_read m c t _ col co h, scales_read m c t _ col co h, zeros_read m c t _ col co h]

/-- The result array after the run. -/
theorem final (c : Dev nD) : (dats m hn 0 c).arrAt 5 (cfgs 0).N
    = product (m ((c : Thread nD τ).loc main_arg0)) (m ((c : Thread nD τ).loc main_arg1)) (m ((c : Thread nD τ).loc main_arg2))
        (m ((c : Thread nD τ).loc main_arg3)) (m ((c : Thread nD τ).loc main_arg4)) (hn c) := by
  refine (dats m hn 0 c).arrAt_eq_of_covers 5 _ (by decide +kernel) fun t _ y => ?_
  blk_simp
  rw [after0_5]
  refine (outBlock_at _ _ _ _ _ _ y).trans ?_
  unfold product answer
  rw [sum_tiles]
  refine Finset.sum_congr rfl fun p _ => Finset.sum_congr rfl fun k _ => ?_
  have h0 : ((win0_5.blk t).view.emb y 0 : ℕ) = (y 0 : ℕ) := by blk_simp [idx t]
  have h1 : ((win0_5.blk t).view.emb y 1 : ℕ) = 1024 * t.val + (y 1 : ℕ) := by blk_simp [idx t]; omega
  rw [wgt_block m hn c t (chan p k) ⟨(y 1).val, (y 1).isLt⟩ ⟨((win0_5.blk t).view.emb y 1 : ℕ), ((win0_5.blk t).view.emb y 1).isLt⟩ h1, acts_read m c t]
  have e0 : (⟨(y 0).val, (y 0).isLt⟩ : Fin 256) = ⟨((win0_5.blk t).view.emb y 0 : ℕ), ((win0_5.blk t).view.emb y 0).isLt⟩ := Fin.ext h0.symm
  rw [e0]
  rfl

end Cert.Proof.KernelIdeal.Value

end
-- ==== Proof.ReferenceIdeal.Read.lean ====
/-
  The reference read at an index: the group words, the codes, the zero points and the scales it gathers, and the sum it takes.
-/
module

public import proofs.«01_k».proof.Proof.ReferenceIdeal.Run
public import proofs.«01_k».proof.Proof.Answer
public import Idealize.ShloMosaic.Lib.Pointwise

@[expose] public section

set_option maxRecDepth 16384

noncomputable section

namespace Cert.Proof.ReferenceIdeal

open Cert.ReferenceIdeal Cert.ReferenceIdeal.Gen Cert.ReferenceIdeal.Value Cert.ReferenceIdeal.Read
open Idealize.ShloMosaic Idealize.ShloMosaic.TcCoe Idealize.ShloMosaic.Tactic
open Cert.Proof.KernelIdeal (nib nibV)

/-- A gather down the rows of a table at words that name rows. -/
theorem gather_rows {α : Type} (x : S36x36864.Idx → α) (w : IVec S2x2304x1 32) (j : Fin 2) (k : Fin 2304) (col : Fin 36864) (r : Fin 36)
    (h : BitVec.toNat (w := 32) (w (ix3 j k 0)) = r.val) :
    Host.gather gather_S36x36864_S2x2304x1_S2x2304x36864_2_0_n_n_0_2_136864 x w (ix3 j k col) = x (ix2 r col) := by
  unfold Host.gather
  refine congrArg x (funext fun a => Fin.ext ?_)
  have hi : (w (ix3 j k 0)).toInt.toNat = r.val := by
    have e := BitVec.toInt_eq_toNat_of_lt (x := w (ix3 j k 0)) (by have := r.isLt; omega)
    rw [e]; exact h
  have ha : a = 0 ∨ a = 1 := by revert a; decide
  show gather_S36x36864_S2x2304x1_S2x2304x36864_2_0_n_n_0_2_136864.start (ix3 j k col) w a
    + gather_S36x36864_S2x2304x1_S2x2304x36864_2_0_n_n_0_2_136864.batchCoord (ix3 j k col) a
    + gather_S36x36864_S2x2304x1_S2x2304x36864_2_0_n_n_0_2_136864.offCoord (ix3 j k col) a = _
  rw [GatherDims.batchCoord_eq_zero _ _ _ List.not_mem_nil]
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S36x36864_S2x2304x1_S2x2304x36864_2_0_n_n_0_2_136864.startIndexMap from List.mem_singleton.mpr rfl)]
    have hsi : gather_S36x36864_S2x2304x1_S2x2304x36864_2_0_n_n_0_2_136864.siIdx (ix3 j k col)
        ⟨List.idxOf (0 : Fin 2) gather_S36x36864_S2x2304x1_S2x2304x36864_2_0_n_n_0_2_136864.startIndexMap,
          List.idxOf_lt_length_iff.2 (List.mem_singleton.mpr rfl)⟩ = ix3 j k 0 := by
      funext b
      refine Fin.ext ?_
      match b with
      | ⟨0, _⟩ => rfl
      | ⟨1, _⟩ => rfl
      | ⟨2, _⟩ => rfl
    rw [hsi, hi]
    show min r.val (36 - 1) = r.val
    omega
  · unfold GatherDims.start
    rw [dif_neg (show (1 : Fin 2) ∉ gather_S36x36864_S2x2304x1_S2x2304x36864_2_0_n_n_0_2_136864.startIndexMap by decide)]
    unfold GatherDims.offCoord
    rw [dif_pos (show (1 : Fin 2) ∈ gather_S36x36864_S2x2304x1_S2x2304x36864_2_0_n_n_0_2_136864.sKept by decide)]
    simp only [Nat.zero_add]
    rfl

/-- The low nibble of a byte, as a word. -/
theorem low : ∀ b : BitVec 8, (IntOp.andi (b.setWidth 32) 15#32).toInt = (nib 0 b : ℤ) := by decide +kernel
/-- The high nibble of a byte, as a word. -/
theorem high : ∀ b : BitVec 8, (IntOp.shrsi .host (b.setWidth 32) 4#32).toInt = (nib 1 b : ℤ) := by decide +kernel
/-- The high nibble of a byte, masked. -/
theorem high_masked : ∀ b : BitVec 8, (IntOp.andi (IntOp.shrsi .host (b.setWidth 32) 4#32) 15#32).toInt = (nib 1 b : ℤ) := by decide +kernel

/-- The stacked group words: even channels, then odd ones. -/
theorem words_apply (g : (⟨S4608, .i32⟩ : BufTy).Contents (Elt Ideal)) (j : Fin 2) (k : Fin 2304) :
    val_main_v20 (F := Ideal) g (ix2 j k) = g (ix1 ⟨2 * k.val + j.val, by omega⟩) := by
  pointwise [val_main_v20, fn_main_v20, val_main_v18, val_main_v19, val_main_v16, val_main_v17]
  split
  · exact congrArg g (congrArg ix1 (Fin.ext (by show 2 * k.val = 2 * k.val + j.val; omega)))
  · exact congrArg g (congrArg ix1 (Fin.ext (by show 1 + 2 * k.val = 2 * k.val + j.val; omega)))

/-- The zero points' table: the low nibbles' rows, then the high ones'. -/
theorem zeros_apply (z : (⟨S18x36864, .i8⟩ : BufTy).Contents (Elt Ideal)) (r : Fin 36) (col : Fin 36864) :
    (val_main_v5 (F := Ideal) z (ix2 r col)).toInt = nib (r.val / 18) (z (ix2 ⟨r.val % 18, by omega⟩ col)) := by
  pointwise [val_main_v5, fn_main_v5, val_main_v2, val_main_v4, val_main_v0, val_main_v1, val_main_v3, val_main_c, val_main_c_0]
  split
  · rename_i h
    have e1 : r.val / 18 = 0 := by omega
    have e2 : (⟨r.val % 18, by omega⟩ : Fin 18) = ⟨r.val, h⟩ := Fin.ext (by show r.val % 18 = r.val; omega)
    rw [e1, e2]
    exact low _
  · rename_i h
    have e1 : r.val / 18 = 1 := by omega
    have e2 : (⟨r.val % 18, by omega⟩ : Fin 18) = ⟨r.val - 18, by omega⟩ := Fin.ext (by show r.val % 18 = r.val - 18; omega)
    rw [e1, e2]
    exact high _

/-- The codes: the low nibbles for even channels, the high ones for odd channels. -/
theorem codes_apply (q : (⟨S2304x36864, .i8⟩ : BufTy).Contents (Elt Ideal)) (j : Fin 2) (k : Fin 2304) (col : Fin 36864) :
    (val_main_v15 (F := Ideal) q (ix3 j k col)).toInt = nib j.val (q (ix2 k col)) := by
  pointwise [val_main_v15, fn_main_v15, val_main_v13, val_main_v14, val_main_v8, val_main_v12, val_main_v6, val_main_v7, val_main_v10, val_main_v9, val_main_v11, val_main_c_1, val_main_c_2, val_main_c_3]
  split
  · rename_i h
    have e : j.val = 0 := by omega
    rw [e]
    exact low _
  · rename_i h
    have e : j.val = 1 := by omega
    rw [e]
    exact high_masked _

/-- The activations: even channels, then odd ones. -/
theorem acts_apply (x : (⟨S256x1x4608, .bf16⟩ : BufTy).Contents (Elt Ideal)) (i : Fin 256) (j : Fin 2) (k : Fin 2304) :
    val_main_v44 (F := Ideal) x (ix3 i j k) = x (ix3 i 0 ⟨2 * k.val + j.val, by omega⟩) := by
  pointwise [val_main_v44, val_main_v43, fn_main_v43, val_main_v41, val_main_v42, val_main_v39, val_main_v40]
  split
  · exact congrArg x (congrArg (ix3 i 0) (Fin.ext (by show 2 * k.val = 2 * k.val + j.val; omega)))
  · exact congrArg x (congrArg (ix3 i 0) (Fin.ext (by show 1 + 2 * k.val = 2 * k.val + j.val; omega)))

/-- The product at an index. -/
theorem sum_apply (x : FVec Ideal S256x2x2304 .bf16) (w : FVec Ideal S2x2304x36864 .bf16) (i : Fin 256) (col : Fin 36864) :
    (Host.dotGeneral dot_S256x2x2304_S2x2304x36864_S256x36864_12_01_0_2_n_n none x w : FVec Ideal S256x36864 .f32) (ix2 i col)
      = ∑ j : Fin 2, ∑ k : Fin 2304, x (ix3 i j k) * w (ix3 j k col) := by
  pointwise

/-- The group words as the gathers read them: none is negative, so none is moved. -/
theorem start_apply (g : (⟨S4608, .i32⟩ : BufTy).Contents (Elt Ideal)) (hg : ∀ k, BitVec.toNat (w := 32) (g k) < 36) (j : Fin 2) (k : Fin 2304) :
    val_main_v26 (F := Ideal) g (ix3 j k 0) = g (ix1 ⟨2 * k.val + j.val, by omega⟩)
      ∧ val_main_v33 (F := Ideal) g (ix3 j k 0) = g (ix1 ⟨2 * k.val + j.val, by omega⟩) := by
  have hw := words_apply g j k
  have hs : ∀ w : BitVec 32, w.toNat < 36 → Scalar.select (Scalar.cmpi .slt w 0#32) (IntOp.addi w 36#32) w = w := fun w h => by
    have hn : w.slt 0#32 = false := by
      rw [BitVec.slt, BitVec.toInt_eq_toNat_of_lt (by omega)]
      simp
    show Scalar.select (BitVec.ofBool (w.slt 0#32)) (IntOp.addi w 36#32) w = w
    rw [hn]
    rfl
  constructor
  · refine Eq.trans ?_ (hs _ (hg _))
    rw [← hw]
    pointwise [val_main_v26, val_main_v25, val_main_v22, val_main_v24, val_main_v21, val_main_v23, val_main_c_4, val_main_c_5]
    rfl
  · refine Eq.trans ?_ (hs _ (hg _))
    rw [← hw]
    pointwise [val_main_v33, val_main_v32, val_main_v29, val_main_v31, val_main_v28, val_main_v30, val_main_c_6, val_main_c_7]
    rfl

/-- The reference's result is the arguments' product. -/
theorem result_apply (x : (⟨S256x1x4608, .bf16⟩ : BufTy).Contents (Elt Ideal)) (q : (⟨S2304x36864, .i8⟩ : BufTy).Contents (Elt Ideal))
    (s : (⟨S36x36864, .bf16⟩ : BufTy).Contents (Elt Ideal)) (z : (⟨S18x36864, .i8⟩ : BufTy).Contents (Elt Ideal))
    (g : (⟨S4608, .i32⟩ : BufTy).Contents (Elt Ideal)) (hg : ∀ k, BitVec.toNat (w := 32) (g k) < 36) (i : Fin 256) (col : Fin 36864) :
    val_main_v46 (F := Ideal) x q s z g (ix2 i col)
      = answer (fun i ch => x (ix3 i 0 ch)) (fun r col => q (ix2 r col)) (fun r col => s (ix2 r col)) (fun r col => z (ix2 r col))
          (fun k => ⟨BitVec.toNat (w := 32) (g (ix1 k)), hg _⟩) i col := by
  unfold answer
  rw [sum_halves]
  refine (sum_apply (val_main_v44 (F := Ideal) x) (val_main_v38 (F := Ideal) q s z g) i col).trans ?_
  refine Finset.sum_congr rfl fun j _ => Finset.sum_congr rfl fun k _ => ?_
  rw [acts_apply]
  refine congrArg (x (ix3 i 0 ⟨2 * k.val + j.val, by omega⟩) * ·) ?_
  set ch : Fin 4608 := ⟨2 * k.val + j.val, by omega⟩ with hch
  let r : Fin 36 := ⟨BitVec.toNat (w := 32) (g (ix1 ch)), hg _⟩
  have hS : val_main_v27 (F := Ideal) s g (ix3 j k col) = s (ix2 r col) :=
    gather_rows _ _ j k col r (congrArg (BitVec.toNat (w := 32)) (start_apply g hg j k).1)
  have hZ : val_main_v34 (F := Ideal) z g (ix3 j k col) = val_main_v5 (F := Ideal) z (ix2 r col) :=
    gather_rows _ _ j k col r (congrArg (BitVec.toNat (w := 32)) (start_apply g hg j k).2)
  have hz : val_main_v35 (F := Ideal) z g (ix3 j k col) = nibV (r.val / 18) (z (ix2 ⟨r.val % 18, by omega⟩ col)) := by
    show (((val_main_v34 (F := Ideal) z g (ix3 j k col)).toInt : ℝ) : EReal) = _
    rw [hZ, zeros_apply]
    rfl
  have hq : val_main_v36 (F := Ideal) q (ix3 j k col) = nibV (ch.val % 2) (q (ix2 ⟨ch.val / 2, by omega⟩ col)) := by
    show (((val_main_v15 (F := Ideal) q (ix3 j k col)).toInt : ℝ) : EReal) = _
    have e1 : ch.val % 2 = j.val := by rw [hch]; show (2 * k.val + j.val) % 2 = j.val; omega
    have e2 : (⟨ch.val / 2, by omega⟩ : Fin 2304) = k := Fin.ext (by show (2 * k.val + j.val) / 2 = k.val; omega)
    rw [codes_apply, e1, e2]
    rfl
  show (val_main_v36 (F := Ideal) q (ix3 j k col) - val_main_v35 (F := Ideal) z g (ix3 j k col)) * val_main_v27 (F := Ideal) s g (ix3 j k col) = _
  rw [hq, hz, hS]
  rfl

end Cert.Proof.ReferenceIdeal

end
-- ==== Proof.Equal.lean ====
/-
  The two programs agree: over exact numbers, from the same arguments, both end with the arguments' product in the result.
-/
module

public import proofs.«01_k».proof.Defs
public import proofs.«01_k».proof.Proof.Groups
public import proofs.«01_k».proof.Proof.KernelIdeal.Array
public import proofs.«01_k».proof.Proof.ReferenceIdeal.Read

@[expose] public section

noncomputable section

namespace Cert.Proof

open Idealize.ShloMosaic Idealize.ShloMosaic.TcCoe Idealize.SL.Sem

section
open Cert.KernelIdeal Cert.KernelIdeal.Gen

variable (m : (ℓ : Loc nD τ sig) → Buf (Elt Ideal) ℓ) (ρ : Dev nD → PrngReg)
  (hn : ∀ c : Dev nD, KernelIdeal.Named (m ((c : Thread nD τ).loc main_arg4)))

/-- The product of the arguments a device holds. -/
abbrev productOf (c : Dev nD) : Vec Ideal S256x36864 .bf16 :=
  KernelIdeal.Value.product (m ((c : Thread nD τ).loc main_arg0)) (m ((c : Thread nD τ).loc main_arg1)) (m ((c : Thread nD τ).loc main_arg2))
    (m ((c : Thread nD τ).loc main_arg3)) (m ((c : Thread nD τ).loc main_arg4)) (hn c)

/-- The kernel ends with the product in its result and its arguments as they were. -/
theorem kernel_ends : θ_run (defs (F := Ideal)) (onTc (τ := τ) (main (F := Ideal))) ⟨m, fun _ => 0, ρ⟩ (fun r => ∀ c : Dev nD,
    r.2.mem ((c.tc : Thread nD τ).loc main_v1) = productOf m hn c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (KernelIdeal.Value.final m hn c),
      ((h.1 c).2 main_arg0 (Pipeline.mem_restRefs_of main_arg0 (by decide) (by decide))).trans (V_main_arg0 m c),
      ((h.1 c).1 2).trans (((KernelIdeal.Value.dats m hn 0 c).arrAt_in 2 rfl _).trans ((KernelIdeal.Value.A_eq m hn c 2).trans (V_main_arg1 m c))),
      ((h.1 c).1 3).trans (((KernelIdeal.Value.dats m hn 0 c).arrAt_in 3 rfl _).trans ((KernelIdeal.Value.A_eq m hn c 3).trans (V_main_arg2 m c))),
      ((h.1 c).1 4).trans (((KernelIdeal.Value.dats m hn 0 c).arrAt_in 4 rfl _).trans ((KernelIdeal.Value.A_eq m hn c 4).trans (V_main_arg3 m c))),
      ((h.1 c).1 0).trans (((KernelIdeal.Value.dats m hn 0 c).arrAt_in 0 rfl _).trans ((KernelIdeal.Value.A_eq m hn c 0).trans (V_main_arg4 m c)))⟩)
    (KernelIdeal.Value.run_main m ρ hn)

end

/-- The reference's term is the product, at every index. -/
theorem reference_product (x : Vec Ideal Cert.KernelIdeal.S256x1x4608 .bf16) (q : Vec Ideal Cert.KernelIdeal.S2304x36864 .i8)
    (s : Vec Ideal Cert.KernelIdeal.S36x36864 .bf16) (z : Vec Ideal Cert.KernelIdeal.S18x36864 .i8) (g : Vec Ideal Cert.KernelIdeal.S4608 .i32)
    (hg : KernelIdeal.Named g) :
    Cert.ReferenceIdeal.Read.val_main_v46 (F := Ideal) x q s z g = KernelIdeal.Value.product x q s z g hg := by
  funext y
  obtain ⟨i, col, rfl⟩ : ∃ (i : Fin 256) (col : Fin 36864), y = ix2 i col :=
    ⟨⟨(y 0).val, (y 0).isLt⟩, ⟨(y 1).val, (y 1).isLt⟩, funext fun a => Fin.ext (by
      have ha : a = 0 ∨ a = 1 := by revert a; decide
      rcases ha with rfl | rfl <;> rfl)⟩
  exact ReferenceIdeal.result_apply x q s z g hg i col

/-- The claim about values. -/
theorem equal [hP : Cert.Pre_groups_named.Facts] :
    Cert.algebraic_KernelIdeal_ReferenceIdeal (hKernelIdeal := Cert.KernelIdeal.Gen.facts) (hReferenceIdeal := Cert.ReferenceIdeal.Gen.facts) := by
  intro m g m' g' hpre hargs
  have hn : ∀ c : Dev Cert.KernelIdeal.nD, KernelIdeal.Named (m ((c : Thread Cert.KernelIdeal.nD Cert.KernelIdeal.τ).loc Cert.KernelIdeal.main_arg4)) :=
    fun c => named_of_pre _ _ _ _ _ (hpre c)
  refine ⟨fun c => productOf m hn c, kernel_ends m g hn, ?_⟩
  refine (θ_run _ _ _).mono (fun r h c => ⟨(h c).1.trans ?_, (h c).2⟩) (Cert.ReferenceIdeal.Value.run m' g')
  obtain ⟨h0, h1, h2, h3, h4⟩ := hargs c
  rw [Cert.ReferenceIdeal.Read.val_main_v46_eq, h0, h1, h2, h3, h4]
  exact reference_product _ _ _ _ _ (hn c)

end Cert.Proof

end
-- ==== Proof.lean ====
/-
  The proof of `Cert.Claim`.
-/
module

public import proofs.«01_k».proof.Defs
public import proofs.«01_k».proof.Proof.Groups
public import proofs.«01_k».proof.Proof.Kernel.Frame
public import proofs.«01_k».proof.Proof.KernelIdeal.Frame
public import proofs.«01_k».proof.Proof.ReferenceIdeal.Run
public import proofs.«01_k».proof.Proof.Equal
public import Idealize.ShloMosaic.Lib.Bf16PairInverse
public import Idealize.ShloMosaic.Lib.Quiescent

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_groups_named.Gen.facts,
    fun m g h => Kernel.frame m g fun c => named_of_pre _ _ _ _ _ (h c),
    fun m g h => KernelIdeal.frame m g fun c => named_of_pre _ _ _ _ _ (h c),
    fun m g _ => (θ_run _ _ _).mono (fun r h => ⟨fun c => (h c).2, sem_eq_zero_of_no_sems (by decide) r.2⟩) (ReferenceIdeal.Value.run m g),
    ⟨IdealRules.bf16_pair.bufferStatement _ _, IdealRules.bf16_pair.bufferStatement _ _, IdealRules.bf16_pair.halfStatement _,
      IdealRules.bf16_pair.statement _ _, IdealRules.bf16_pair.statement _ _, IdealRules.bf16_pair.statement _ _,
      IdealRules.bf16_pair.statement _ _, IdealRules.bf16_pair.packStatement _⟩,
    equal⟩

end Cert.Proof

end
